-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v6) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v5) = v2 c
          ∧ r.2.mem ((c.tc : Thread Cert.ReferenceIdeal.nD Cert.ReferenceIdeal.τ).loc Cert.ReferenceIdeal.main_v6) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S12x512x8192 : Shape := ⟨3, ![12, 512, 8192]⟩
abbrev S8192x5120 : Shape := ⟨2, ![8192, 5120]⟩
abbrev S64x10240 : Shape := ⟨2, ![64, 10240]⟩
abbrev S10240 : Shape := ⟨1, ![10240]⟩
abbrev S1x10240 : Shape := ⟨2, ![1, 10240]⟩
abbrev S6144x8192 : Shape := ⟨2, ![6144, 8192]⟩
abbrev S6144x5120 : Shape := ⟨2, ![6144, 5120]⟩
abbrev S6144x1 : Shape := ⟨2, ![6144, 1]⟩
abbrev S256x8192 : Shape := ⟨2, ![256, 8192]⟩
abbrev S8192x256 : Shape := ⟨2, ![8192, 256]⟩
abbrev S64x256 : Shape := ⟨2, ![64, 256]⟩
abbrev S1x256 : Shape := ⟨2, ![1, 256]⟩
abbrev S256x5120 : Shape := ⟨2, ![256, 5120]⟩
abbrev S256x1 : Shape := ⟨2, ![256, 1]⟩
abbrev S256x128 : Shape := ⟨2, ![256, 128]⟩
abbrev S32x8192 : Shape := ⟨2, ![32, 8192]⟩
abbrev S32 : Shape := ⟨1, ![32]⟩
abbrev S32x1 : Shape := ⟨2, ![32, 1]⟩
abbrev S128x256 : Shape := ⟨2, ![128, 256]⟩
abbrev S32x256 : Shape := ⟨2, ![32, 256]⟩
abbrev S256x256 : Shape := ⟨2, ![256, 256]⟩
abbrev S32x128 : Shape := ⟨2, ![32, 128]⟩
abbrev S32x5120 : Shape := ⟨2, ![32, 5120]⟩
abbrev S12x512x5120 : Shape := ⟨3, ![12, 512, 5120]⟩
abbrev S12x512 : Shape := ⟨2, ![12, 512]⟩

abbrev nBuf : Space → Nat
  | .hbm => 14
  | .vmem => 26
  | .smem => 0
  | _ => 0

abbrev bufTy : (tb : Table) → Fin (tcTables nBuf tb) → BufTy
  | .hbm, ⟨0, _⟩ => ⟨S12x512x8192, .bf16⟩
  | .hbm, ⟨1, _⟩ => ⟨S8192x5120, .i8⟩
  | .hbm, ⟨2, _⟩ => ⟨S64x10240, .f32⟩
  | .hbm, ⟨3, _⟩ => ⟨S10240, .f32⟩
  | .hbm, ⟨4, _⟩ => ⟨S1x10240, .f32⟩
  | .hbm, ⟨5, _⟩ => ⟨S6144x8192, .bf16⟩
  | .hbm, ⟨6, _⟩ => ⟨S6144x5120, .fp8e4m3⟩
  | .hbm, ⟨7, _⟩ => ⟨S6144x1, .f32⟩
  | .hbm, ⟨8, _⟩ => ⟨S6144x8192, .fp8e4m3⟩
  | .hbm, ⟨9, _⟩ => ⟨S6144x1, .f32⟩
  | .hbm, ⟨10, _⟩ => ⟨S12x512x5120, .fp8e4m3⟩
  | .hbm, ⟨11, _⟩ => ⟨S12x512, .f32⟩
  | .hbm, ⟨12, _⟩ => ⟨S12x512x8192, .fp8e4m3⟩
  | .hbm, ⟨13, _⟩ => ⟨S12x512, .f32⟩
  | .local _ .vmem, ⟨0, _⟩ => ⟨S256x8192, .bf16⟩
  | .local _ .vmem, ⟨1, _⟩ => ⟨S256x8192, .bf16⟩
  | .local _ .vmem, ⟨2, _⟩ => ⟨S8192x256, .i8⟩
  | .local _ .vmem, ⟨3, _⟩ => ⟨S8192x256, .i8⟩
  | .local _ .vmem, ⟨4, _⟩ => ⟨S64x256, .f32⟩
  | .local _ .vmem, ⟨5, _⟩ => ⟨S64x256, .f32⟩
  | .local _ .vmem, ⟨6, _⟩ => ⟨S64x256, .f32⟩
  | .local _ .vmem, ⟨7, _⟩ => ⟨S64x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S256x5120, .fp8e4m3⟩
  | .local _ .vmem, ⟨13, _⟩ => ⟨S256x5120, .fp8e4m3⟩
  | .local _ .vmem, ⟨14, _⟩ => ⟨S256x1, .f32⟩
  | .local _ .vmem, ⟨15, _⟩ => ⟨S256x1, .f32⟩
  | .local _ .vmem, ⟨16, _⟩ => ⟨S256x8192, .fp8e4m3⟩
  | .local _ .vmem, ⟨17, _⟩ => ⟨S256x8192, .fp8e4m3⟩
  | .local _ .vmem, ⟨18, _⟩ => ⟨S256x1, .f32⟩
  | .local _ .vmem, ⟨19, _⟩ => ⟨S256x1, .f32⟩
  | .local _ .vmem, ⟨20, _⟩ => ⟨S256x8192, .bf16⟩
  | .local _ .vmem, ⟨21, _⟩ => ⟨S8192x256, .bf16⟩
  | .local _ .vmem, ⟨22, _⟩ => ⟨S8192x256, .bf16⟩
  | .local _ .vmem, ⟨23, _⟩ => ⟨S256x5120, .f32⟩
  | .local _ .vmem, ⟨24, _⟩ => ⟨S256x128, .f32⟩
  | .local _ .vmem, ⟨25, _⟩ => ⟨S256x1, .f32⟩
  | _, _ => ⟨S12x512x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![24, 20], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_21 : BitVec 32 := 0#32
  let c8_i32 : BitVec 32 := 8#32
  let v43 : BitVec 32 := Scalar.addi c0_i32_21 c8_i32
  let c1_i32_22 : BitVec 32 := 1#32
  ⟨c0_i32_21, v43, c1_i32_22⟩
def k0_off1 (k0_t1 : Fin k0_t1_loop.trips) : Fin 2 → Nat :=
  let c0_i32_28 : BitVec 32 := 0#32
  let c0_i32_21 : BitVec 32 := 0#32
  let c1_i32_22 : BitVec 32 := 1#32
  let arg18 : BitVec 32 := Scf.iv c0_i32_21 c1_i32_22 k0_t1
  let c1_i32_27 : BitVec 32 := 1#32
  let v48 : BitVec 32 := Scalar.muli arg18 c1_i32_27
  let v49 : BitVec 32 := Scalar.addi c0_i32_28 v48
  let c32_i32 : BitVec 32 := 32#32
  let v50 : BitVec 32 := Scalar.muli v49 c32_i32
  let v51 : Index := Scalar.indexCast v50
  let c0_29 : Index := 0#32
  ![v51.toNat, 0]
def k0_off2 (k0_t1 : Fin k0_t1_loop.trips) : Fin 2 → Nat :=
  let c0_i32_28 : BitVec 32 := 0#32
  let c0_i32_21 : BitVec 32 := 0#32
  let c1_i32_22 : BitVec 32 := 1#32
  let arg18 : BitVec 32 := Scf.iv c0_i32_21 c1_i32_22 k0_t1
  let c1_i32_27 : BitVec 32 := 1#32
  let v48 : BitVec 32 := Scalar.muli arg18 c1_i32_27
  let v49 : BitVec 32 := Scalar.addi c0_i32_28 v48
  let c32_i32 : BitVec 32 := 32#32
  let v50 : BitVec 32 := Scalar.muli v49 c32_i32
  let v157 : Index := Scalar.indexCast v50
  let c0_56 : Index := 0#32
  ![v157.toNat, 0]
@[reducible] def k0_t2_loop : Scf.Loop 32 :=
  let c0_i32_1 : BitVec 32 := 0#32
  let c64_i32 : BitVec 32 := 64#32
  let v3 : BitVec 32 := Scalar.addi c0_i32_1 c64_i32
  let c1_i32 : BitVec 32 := 1#32
  ⟨c0_i32_1, v3, c1_i32⟩
def k0_mult1 (k0_t2 : Fin k0_t2_loop.trips) : BitVec 32 :=
  let c0_i32_22 : BitVec 32 := 0#32
  let c0_i32_1 : BitVec 32 := 0#32
  let c1_i32 : BitVec 32 := 1#32
  let arg18 : BitVec 32 := Scf.iv c0_i32_1 c1_i32 k0_t2
  let c1_i32_21 : BitVec 32 := 1#32
  let v43 : BitVec 32 := Scalar.muli arg18 c1_i32_21
  let v44 : BitVec 32 := Scalar.addi c0_i32_22 v43
  let c128_i32 : BitVec 32 := 128#32
  let v45 : BitVec 32 := Scalar.muli v44 c128_i32
  v45
def k0_off3 (k0_t2 : Fin k0_t2_loop.trips) : Fin 2 → Nat :=
  let c0_i32_22 : BitVec 32 := 0#32
  let c0_i32_1 : BitVec 32 := 0#32
  let c1_i32 : BitVec 32 := 1#32
  let arg18 : BitVec 32 := Scf.iv c0_i32_1 c1_i32 k0_t2
  let c1_i32_21 : BitVec 32 := 1#32
  let v43 : BitVec 32 := Scalar.muli arg18 c1_i32_21
  let v44 : BitVec 32 := Scalar.addi c0_i32_22 v43
  let c128_i32 : BitVec 32 := 128#32
  let v45 : BitVec 32 := Scalar.muli v44 c128_i32
  let v46 : BitVec 32 := v45
  let v47 : Index := Scalar.indexCast v46
  let c0_23 : Index := 0#32
  ![v47.toNat, 0]
def k0_off4 (k0_t2 : Fin k0_t2_loop.trips) : Fin 2 → Nat :=
  let c0_i32_22 : BitVec 32 := 0#32
  let c0_i32_1 : BitVec 32 := 0#32
  let c1_i32 : BitVec 32 := 1#32
  let arg18 : BitVec 32 := Scf.iv c0_i32_1 c1_i32 k0_t2
  let c1_i32_21 : BitVec 32 := 1#32
  let v43 : BitVec 32 := Scalar.muli arg18 c1_i32_21
  let v44 : BitVec 32 := Scalar.addi c0_i32_22 v43
  let v60 : Index := Scalar.indexCast v44
  let c0_25 : Index := 0#32
  ![v60.toNat, 0]
def k0_mult2 (i : grid0.Coords) : BitVec 32 :=
  let arg1 : BitVec 32 := BitVec.ofNat 32 (i 1).val
  let c256_i32 : BitVec 32 := 256#32
  let v25 : BitVec 32 := Scalar.muli arg1 c256_i32
  v25
def k0_off5 (i : grid0.Coords) : Fin 2 → Nat :=
  let c0_15 : Index := 0#32
  let arg1 : BitVec 32 := BitVec.ofNat 32 (i 1).val
  let c256_i32 : BitVec 32 := 256#32
  let v25 : BitVec 32 := Scalar.muli arg1 c256_i32
  let v26 : BitVec 32 := v25
  let v27 : Index := Scalar.indexCast v26
  ![0, v27.toNat]
def k0_cond2 (i : grid0.Coords) : BitVec 1 :=
  let arg1 : BitVec 32 := BitVec.ofNat 32 (i 1).val
  let c19_i32 : BitVec 32 := 19#32
  let v40 : BitVec 1 := Scalar.cmpi .eq arg1 c19_i32
  let v41 : BitVec 32 := Scalar.extui v40
  let c0_i32_20 : BitVec 32 := 0#32
  let v42 : BitVec 1 := Scalar.cmpi .ne v41 c0_i32_20
  v42

@[reducible] def k0_t3_loop : Scf.Loop 32 :=
  let c0_i32_21 : BitVec 32 := 0#32
  let c8_i32 : BitVec 32 := 8#32
  let v43 : BitVec 32 := Scalar.addi c0_i32_21 c8_i32
  let c1_i32_22 : BitVec 32 := 1#32
  ⟨c0_i32_21, v43, c1_i32_22⟩
def k0_off6 (k0_t3 : Fin k0_t3_loop.trips) : Fin 2 → Nat :=
  let c0_i32_25 : BitVec 32 := 0#32
  let c0_i32_21 : BitVec 32 := 0#32
  let c1_i32_22 : BitVec 32 := 1#32
  let arg18 : BitVec 32 := Scf.iv c0_i32_21 c1_i32_22 k0_t3
  let c1_i32_24 : BitVec 32 := 1#32
  let v44 : BitVec 32 := Scalar.muli arg18 c1_i32_24
  let v45 : BitVec 32 := Scalar.addi c0_i32_25 v44
  let c32_i32 : BitVec 32 := 32#32
  let v46 : BitVec 32 := Scalar.muli v45 c32_i32
  let v47 : Index := Scalar.indexCast v46
  let c0_26 : Index := 0#32
  ![v47.toNat, 0]
def k0_off7 (k0_t3 : Fin k0_t3_loop.trips) : Fin 2 → Nat :=
  let c0_i32_25 : BitVec 32 := 0#32
  let c0_i32_21 : BitVec 32 := 0#32
  let c1_i32_22 : BitVec 32 := 1#32
  let arg18 : BitVec 32 := Scf.iv c0_i32_21 c1_i32_22 k0_t3
  let c1_i32_24 : BitVec 32 := 1#32
  let v44 : BitVec 32 := Scalar.muli arg18 c1_i32_24
  let v45 : BitVec 32 := Scalar.addi c0_i32_25 v44
  let c32_i32 : BitVec 32 := 32#32
  let v46 : BitVec 32 := Scalar.muli v45 c32_i32
  let v133 : Index := Scalar.indexCast v46
  let c0_48 : Index := 0#32
  ![v133.toNat, 0]
def k0_off8 (k0_t3 : Fin k0_t3_loop.trips) : Fin 2 → Nat :=
  let c0_i32_25 : BitVec 32 := 0#32
  let c0_i32_21 : BitVec 32 := 0#32
  let c1_i32_22 : BitVec 32 := 1#32
  let arg18 : BitVec 32 := Scf.iv c0_i32_21 c1_i32_22 k0_t3
  let c1_i32_24 : BitVec 32 := 1#32
  let v44 : BitVec 32 := Scalar.muli arg18 c1_i32_24
  let v45 : BitVec 32 := Scalar.addi c0_i32_25 v44
  let c32_i32 : BitVec 32 := 32#32
  let v46 : BitVec 32 := Scalar.muli v45 c32_i32
  let v144 : Index := Scalar.indexCast v46
  let c0_52 : Index := 0#32
  ![v144.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi arg1 c20_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi arg1 c20_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8192x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x5120 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x8192 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S12x512x8192 : Shape := ⟨3, ![12, 512, 8192]⟩
abbrev S8192x5120 : Shape := ⟨2, ![8192, 5120]⟩
abbrev S64x10240 : Shape := ⟨2, ![64, 10240]⟩
abbrev S10240 : Shape := ⟨1, ![10240]⟩
abbrev S6144x8192 : Shape := ⟨2, ![6144, 8192]⟩
abbrev S1x10240 : Shape := ⟨2, ![1, 10240]⟩
abbrev S6144x5120 : Shape := ⟨2, ![6144, 5120]⟩
abbrev S6144x1 : Shape := ⟨2, ![6144, 1]⟩
abbrev S6144 : Shape := ⟨1, ![6144]⟩
abbrev S6144x246 : Shape := ⟨2, ![6144, 246]⟩
abbrev S64x5120 : Shape := ⟨2, ![64, 5120]⟩
abbrev S64x128x5120 : Shape := ⟨3, ![64, 128, 5120]⟩
abbrev S64x1x5120 : Shape := ⟨3, ![64, 1, 5120]⟩
abbrev S1x5120 : Shape := ⟨2, ![1, 5120]⟩
abbrev S12x512x5120 : Shape := ⟨3, ![12, 512, 5120]⟩
abbrev S12x512 : Shape := ⟨2, ![12, 512]⟩

abbrev nBuf : Space → Nat
  | .hbm => 14
  | .vmem => 8
  | .smem => 0
  | _ => 0

abbrev bufTy : (tb : Table) → Fin (tcTables nBuf tb) → BufTy
  | .hbm, ⟨0, _⟩ => ⟨S12x512x8192, .bf16⟩
  | .hbm, ⟨1, _⟩ => ⟨S8192x5120, .i8⟩
  | .hbm, ⟨2, _⟩ => ⟨S64x10240, .f32⟩
  | .hbm, ⟨3, _⟩ => ⟨S10240, .f32⟩
  | .hbm, ⟨4, _⟩ => ⟨S6144x8192, .bf16⟩
  | .hbm, ⟨5, _⟩ => ⟨S1x10240, .f32⟩
  | .hbm, ⟨6, _⟩ => ⟨S6144x5120, .fp8e4m3⟩
  | .hbm, ⟨7, _⟩ => ⟨S6144x1, .f32⟩
  | .hbm, ⟨8, _⟩ => ⟨S6144x8192, .fp8e4m3⟩
  | .hbm, ⟨9, _⟩ => ⟨S6144x1, .f32⟩
  | .hbm, ⟨10, _⟩ => ⟨S12x512x5120, .fp8e4m3⟩
  | .hbm, ⟨11, _⟩ => ⟨S12x512, .f32⟩
  | .hbm, ⟨12, _⟩ => ⟨S12x512x8192, .fp8e4m3⟩
  | .hbm, ⟨13, _⟩ => ⟨S12x512, .f32⟩
  | .local _ .vmem, ⟨0, _⟩ => ⟨S6144x8192, .bf16⟩
  | .local _ .vmem, ⟨1, _⟩ => ⟨S8192x5120, .i8⟩
  | .local _ .vmem, ⟨2, _⟩ => ⟨S64x10240, .f32⟩
  | .local _ .vmem, ⟨3, _⟩ => ⟨S1x10240, .f32⟩
  | .local _ .vmem, ⟨4, _⟩ => ⟨S6144x5120, .fp8e4m3⟩
  | .local _ .vmem, ⟨5, _⟩ => ⟨S6144x1, .f32⟩
  | .local _ .vmem, ⟨6, _⟩ => ⟨S6144x8192, .fp8e4m3⟩
  | .local _ .vmem, ⟨7, _⟩ => ⟨S6144x1, .f32⟩
  | _, _ => ⟨S12x512x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S6144x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x5120 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x10240 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x10240 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x5120 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6144x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6144x8192 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6144x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Rows.lean ====
module

public import Idealize.ShloMosaic.Lib.Pipeline.FrameBody
public import Idealize.ShloMosaic.Lib.Pipeline.Value
public import Idealize.ShloMosaic.Lib.Pointwise

@[expose] public section

/-! # Arrays read and written in chunks of rows, or in blocks of columns

Facts about rank-two arrays that know nothing of any program. -/

namespace Cert.Rows

open Idealize.ShloMosaic

/-- The `k`-th chunk of `B` rows of an array of `R` rows. -/
def chunk {R C : ℕ} {α : Type} [NeZero R] (B : ℕ) (X : (⟨2, ![R, C]⟩ : Shape).Idx → α) (k : ℕ) :
    (⟨2, ![B, C]⟩ : Shape).Idx → α :=
  fun y => X (ix2 ⟨(B * k + (y 0).val) % R, Nat.mod_lt _ (Nat.pos_of_neZero R)⟩ (y 1))

/-- The array whose `k`-th chunk of `B` rows is `P k`. -/
def unchunk {R C : ℕ} {α : Type} (B : ℕ) [NeZero B] (P : ℕ → (⟨2, ![B, C]⟩ : Shape).Idx → α) :
    (⟨2, ![R, C]⟩ : Shape).Idx → α :=
  fun y => P ((y 0).val / B) (ix2 ⟨(y 0).val % B, Nat.mod_lt _ (Nat.pos_of_neZero B)⟩ (y 1))

/-- An array with its `j`-th block of `W` columns replaced by `v`. -/
def putCols {R C : ℕ} {α : Type} (W : ℕ) [NeZero W] (j : ℕ) (v : (⟨2, ![R, W]⟩ : Shape).Idx → α)
    (X : (⟨2, ![R, C]⟩ : Shape).Idx → α) : (⟨2, ![R, C]⟩ : Shape).Idx → α :=
  fun y => if (y 1).val / W = j then v (ix2 (y 0) ⟨(y 1).val % W, Nat.mod_lt _ (Nat.pos_of_neZero W)⟩) else X y

/-- Two rank-two indices with equal coordinates are equal. -/
theorem idx_ext {R C : ℕ} {y z : (⟨2, ![R, C]⟩ : Shape).Idx} (h0 : (y 0).val = (z 0).val) (h1 : (y 1).val = (z 1).val) : y = z := by
  funext a
  match a with
  | ⟨0, _⟩ => exact Fin.ext h0
  | ⟨1, _⟩ => exact Fin.ext h1

variable {sig : RefSig} {κ : Kind} {sp : Space} {e : EltTy} {Val : EltTy → Type}

/-- A load of `B` whole rows starting at row `B * k` reads the `k`-th chunk. -/
theorem readAt_rows {R C B : ℕ} [NeZero R] (v : View sig κ sp ⟨2, ![R, C]⟩ e) (f : v.ty.Contents Val) (off : Fin 2 → ℕ)
    (k : ℕ) (hoff : off = ![B * k, 0]) (inb) :
    v.readAt Val (Rect.unit (s := ⟨2, ![R, C]⟩) off ![B, C] inb).toLoadRect f = chunk B (v.read Val f) k := by
  subst hoff
  rw [View.readAt_eq_ld]
  funext y
  unfold chunk View.ld
  refine congrArg _ (idx_ext ?_ ?_)
  · have h := inb 0
    have hy : (y 0).val < B := (y 0).isLt
    have h' : B * k + B ≤ R := h
    show B * k + 1 * (y 0).val = (B * k + (y 0).val) % R
    rw [Nat.mod_eq_of_lt (by omega), Nat.one_mul]
  · show 0 + 1 * (y 1).val = (y 1).val
    omega

/-- After the chunks of `B` rows have been stored one by one, from the first to the last, the array is the one they form. -/
theorem read_rows [∀ e, Nonempty (Val e)] {R C B T : ℕ} [NeZero B] (hT : B * T = R) (v : View sig κ sp ⟨2, ![R, C]⟩ e)
    (f : v.ty.Contents Val) (P : ℕ → (⟨2, ![B, C]⟩ : Shape).Idx → Val e) (off : Fin T → Fin 2 → ℕ)
    (hoff : ∀ k, off k = ![B * k.val, 0]) (inb : ∀ k, ∀ a, off k a + (![B, C] : Fin 2 → ℕ) a ≤ (⟨2, ![R, C]⟩ : Shape).size a)
    (pb : ℕ → List (View.Piece Val ⟨2, ![R, C]⟩ e)) (h0 : pb 0 = [])
    (hs : ∀ k : Fin T, pb (k.val + 1) = ⟨Rect.unit (s := ⟨2, ![R, C]⟩) (off k) ![B, C] (inb k), P k.val⟩ :: pb k.val) :
    v.read Val (v.writes Val f (pb T)) = unchunk B P := by
  have hmem : ∀ n, n ≤ T → ∀ p ∈ pb n, ∃ k : Fin T, p = ⟨Rect.unit (s := ⟨2, ![R, C]⟩) (off k) ![B, C] (inb k), P k.val⟩ := by
    intro n
    induction n with
    | zero => intro _ p hp; rw [h0] at hp; cases hp
    | succ n ih =>
      intro hn p hp
      rw [hs ⟨n, hn⟩] at hp
      rcases List.mem_cons.1 hp with rfl | hp
      · exact ⟨⟨n, hn⟩, rfl⟩
      · exact ih (by omega) p hp
  have hall : ∀ n, n ≤ T → ∀ k : Fin T, k.val < n → (⟨Rect.unit (s := ⟨2, ![R, C]⟩) (off k) ![B, C] (inb k), P k.val⟩ : View.Piece Val ⟨2, ![R, C]⟩ e) ∈ pb n := by
    intro n
    induction n with
    | zero => intro _ k hk; omega
    | succ n ih =>
      intro hn k hk
      rw [hs ⟨n, hn⟩]
      by_cases hkn : k.val = n
      · have : k = ⟨n, hn⟩ := Fin.ext hkn
        subst this; exact List.mem_cons_self
      · exact List.mem_cons_of_mem _ (ih (by omega) k (by omega))
  have hB : 0 < B := Nat.pos_of_neZero B
  have hcov : ∀ y : (⟨2, ![R, C]⟩ : Shape).Idx, ∃ p ∈ pb T, y ∈ p.1.set := by
    intro y
    have hy : (y 0).val < R := (y 0).isLt
    have hk : (y 0).val / B < T := by
      rw [Nat.div_lt_iff_lt_mul hB, Nat.mul_comm]; omega
    refine ⟨_, hall T le_rfl ⟨_, hk⟩ hk, ?_⟩
    rw [Rect.mem_set_unit]
    intro a
    rw [hoff]
    have hd := Nat.div_add_mod (y 0).val B
    have hm := Nat.mod_lt (y 0).val hB
    match a with
    | ⟨0, _⟩ =>
      show B * ((y 0).val / B) ≤ (y 0).val ∧ (y 0).val < B * ((y 0).val / B) + B
      omega
    | ⟨1, _⟩ =>
      have h1 : (y 1).val < C := (y 1).isLt
      show 0 ≤ (y 1).val ∧ (y 1).val < 0 + C
      omega
  rw [View.read_writes_eq_canon v f _ hcov]
  funext y
  refine View.canon_apply_of_pieces (unchunk B P) (pb T) ?_ y (hcov y)
  intro p hp x
  obtain ⟨k, rfl⟩ := hmem T le_rfl p hp
  have hx : (x 0).val < B := (x 0).isLt
  have e0 : ((Rect.unit (s := ⟨2, ![R, C]⟩) (off k) ![B, C] (inb k)).emb x 0).val = B * k.val + (x 0).val := by
    have h : off k 0 = B * k.val := congrFun (hoff k) 0
    rw [Rect.emb_apply]; show off k 0 + 1 * (x 0).val = _; omega
  have e1 : ((Rect.unit (s := ⟨2, ![R, C]⟩) (off k) ![B, C] (inb k)).emb x 1).val = (x 1).val := by
    have h : off k 1 = 0 := congrFun (hoff k) 1
    rw [Rect.emb_apply]; show off k 1 + 1 * (x 1).val = _; omega
  show P k.val x = unchunk B P _
  unfold unchunk
  have hk : ((Rect.unit (s := ⟨2, ![R, C]⟩) (off k) ![B, C] (inb k)).emb x 0).val / B = k.val := by
    rw [e0, Nat.mul_add_div hB, Nat.div_eq_of_lt hx, Nat.add_zero]
  rw [hk]
  refine congrArg _ (idx_ext ?_ ?_)
  · show (x 0).val = ((Rect.unit (s := ⟨2, ![R, C]⟩) (off k) ![B, C] (inb k)).emb x 0).val % B
    rw [e0, Nat.mul_add_mod, Nat.mod_eq_of_lt hx]
  · exact e1.symm

/-- After a store of one block of `W` columns, the array is the old one with that block replaced. -/
theorem read_cols {R C W : ℕ} [NeZero W] (v : View sig κ sp ⟨2, ![R, C]⟩ e)
    (f : v.ty.Contents Val) (w : (⟨2, ![R, W]⟩ : Shape).Idx → Val e) (off : Fin 2 → ℕ) (j : ℕ) (hoff : off = ![0, W * j]) (inb) :
    v.read Val (v.writes Val f [⟨Rect.unit (s := ⟨2, ![R, C]⟩) off ![R, W] inb, w⟩]) = putCols W j w (v.read Val f) := by
  subst hoff
  have hW : 0 < W := Nat.pos_of_neZero W
  funext y
  unfold putCols
  by_cases hy : y ∈ (Rect.unit (s := ⟨2, ![R, C]⟩) ![0, W * j] ![R, W] inb).set
  · have hy' := Rect.mem_set_unit.1 hy 1
    have h1 : W * j ≤ (y 1).val ∧ (y 1).val < W * j + W := hy'
    have hd : (y 1).val / W = j := by
      apply Nat.div_eq_of_lt_le
      · rw [Nat.mul_comm]; exact h1.1
      · rw [Nat.add_mul, Nat.mul_comm j, Nat.one_mul]; exact h1.2
    rw [if_pos hd]
    obtain ⟨x, rfl⟩ := (Rect.unit (s := ⟨2, ![R, C]⟩) ![0, W * j] ![R, W] inb).exists_idx_of_mem hy
    refine (View.read_writes_cons_emb v f _ w [] x).trans (congrArg w (idx_ext ?_ ?_))
    · show (x 0).val = 0 + 1 * (x 0).val; omega
    · have hx : (x 1).val < W := (x 1).isLt
      show (x 1).val = (W * j + 1 * (x 1).val) % W
      rw [Nat.mul_add_mod, Nat.one_mul, Nat.mod_eq_of_lt hx]
  · have hd : ¬ (y 1).val / W = j := by
      intro hd
      apply hy
      rw [Rect.mem_set_unit]
      intro a
      have h := Nat.div_add_mod (y 1).val W
      have hm := Nat.mod_lt (y 1).val hW
      rw [hd] at h
      match a with
      | ⟨0, _⟩ =>
        have h0 : (y 0).val < R := (y 0).isLt
        show 0 ≤ (y 0).val ∧ (y 0).val < 0 + R; omega
      | ⟨1, _⟩ => show W * j ≤ (y 1).val ∧ (y 1).val < W * j + W; omega
    rw [if_neg hd]
    refine View.read_writes_apply_of_forall_not_mem v f y _ ?_
    intro p hp
    rw [List.mem_singleton.1 hp]; exact hy

end Cert.Rows
-- ==== Proof.Vals.lean ====
module

public import proofs.«01_k».proof.Proof.Rows
public import proofs.«01_k».proof.Proof.Gen.KernelIdeal.Skeleton

@[expose] public section

set_option maxRecDepth 16384

/-! # What the kernel computes, chunk by chunk and point by point

The kernel's buffers as functions of its input blocks: every step of the body is one of the printed payloads, applied
to a chunk of rows. Nothing here runs anything. -/

noncomputable section

namespace Cert.KernelIdeal.Vals

open Idealize.ShloMosaic Cert.Rows Cert.KernelIdeal.Gen

variable {F : FTy → Type} [FloatOps F]

/-- The exponent of the scale of each row of a 32-row chunk of `x`. -/
def xE (ch : Vec F S32x8192 .bf16) : IVec S32x1 32 := k0_pay7 (k0_pay4 ch) (k0_pay5 ch) (k0_pay6 ch)
/-- The scale of each row of a 32-row chunk of `x`. -/
def xS (ch : Vec F S32x8192 .bf16) : FVec F S32x1 .f32 := k0_pay8 (k0_pay4 ch) (k0_pay5 ch) (k0_pay6 ch)
/-- The codes of a block of `x`. -/
def XC (x : Vec F S256x8192 .bf16) : Vec F S256x8192 .fp8e4m3 :=
  unchunk 32 fun k => k0_pay16 (k0_pay3 (chunk 32 x k)) (xE (chunk 32 x k)) 127#32
/-- The same codes, divided by 16, in the format in which they are multiplied. -/
def XB (x : Vec F S256x8192 .bf16) : Vec F S256x8192 .bf16 :=
  unchunk 32 fun k => k0_pay17 (k0_pay3 (chunk 32 x k)) (xE (chunk 32 x k)) 127#32
/-- The scales of a block of `x`. -/
def XS (x : Vec F S256x8192 .bf16) : Vec F S256x1 .f32 := unchunk 32 fun k => xS (chunk 32 x k)
/-- The same scales as the products use them. -/
def TS (x : Vec F S256x8192 .bf16) : Vec F S256x1 .f32 := unchunk 32 fun k => k0_pay18 (xS (chunk 32 x k))
/-- A block of gate weights, from the packed words and the group scales. -/
def WG (w : Vec F S8192x256 .i8) (g : Vec F S64x256 .f32) : Vec F S8192x256 .bf16 :=
  unchunk 128 fun k => k0_pay21 (chunk 128 w k) (chunk 1 g k)
/-- A block of up weights, from the packed words and the group scales. -/
def WU (w : Vec F S8192x256 .i8) (g : Vec F S64x256 .f32) : Vec F S8192x256 .bf16 :=
  unchunk 128 fun k => k0_pay22 (chunk 128 w k) (chunk 1 g k)
/-- A block of columns of `h`. -/
def HN (xb : Vec F S256x8192 .bf16) (ts : Vec F S256x1 .f32) (w : Vec F S8192x256 .i8) (gg gu : Vec F S64x256 .f32)
    (sg su : Vec F S1x256 .f32) : FVec F S256x256 .f32 := k0_pay24 xb (WG w gg) (WU w gu) ts sg su
/-- Its absolute values. -/
def HA (xb : Vec F S256x8192 .bf16) (ts : Vec F S256x1 .f32) (w : Vec F S8192x256 .i8) (gg gu : Vec F S64x256 .f32)
    (sg su : Vec F S1x256 .f32) : FVec F S256x256 .f32 := k0_pay25 xb (WG w gg) (WU w gu) ts sg su
/-- The scale of each row of a 32-row chunk of `h`, from the running maxima. -/
def hS (a : Vec F S32x128 .f32) : FVec F S32x1 .f32 := k0_pay14 (k0_pay9 a) (k0_pay10 a) (k0_pay11 a) (k0_pay12 a)
/-- The exponent of the inverse of that scale. -/
def hI (a : Vec F S32x128 .f32) : IVec S32x1 32 := k0_pay15 (k0_pay9 a) (k0_pay10 a) (k0_pay11 a) (k0_pay12 a)
/-- The codes of a block of `h`. -/
def HC (a : Vec F S256x128 .f32) (h : Vec F S256x5120 .f32) : Vec F S256x5120 .fp8e4m3 :=
  unchunk 32 fun k => k0_pay2 (hI (chunk 32 a k)) 23#32 (chunk 32 h k)
/-- The scales of a block of `h`. -/
def HS (a : Vec F S256x128 .f32) : Vec F S256x1 .f32 := unchunk 32 fun k => hS (chunk 32 a k)

end Cert.KernelIdeal.Vals

end
-- ==== Proof.LoopVals.lean ====
module

public import proofs.«01_k».proof.Proof.Rows
public import proofs.«01_k».proof.Proof.Vals
public import proofs.«01_k».proof.Proof.Gen.KernelIdeal.Frame
public import proofs.«01_k».proof.Proof.Gen.KernelIdeal.Loops

@[expose] public section

set_option maxRecDepth 16384

/-! # What the kernel's three counted loops store -/

noncomputable section

namespace Cert.KernelIdeal.Hand

open Idealize.ShloMosaic Idealize.ShloMosaic.TcCoe Idealize.ShloMosaic.Tactic
open Cert.Rows Cert.KernelIdeal.Gen Cert.KernelIdeal.Vals

variable {F : FTy → Type} [FloatOps F]

/-- The group scales' row, as a chunk of one row. -/
theorem k0_off4_eq' (k : Fin k0_t2_loop.trips) : k0_off4 k = ![1 * k.val, 0] := by rw [Nat.one_mul]; exact k0_off4_eq k

/-- One trip of the quantisation of `x` stores the chunks that `Vals` names. -/
theorem trip1_eq (c : Dev nD) (i : grid0.Coords) (arg2 : Memref sig .tc .vmem S256x8192 .bf16) (harg2 : arg2.IsWhole) (arg3 : Memref sig .tc .vmem S8192x256 .i8) (harg3 : arg3.IsWhole) (arg4 : Memref sig .tc .vmem S64x256 .f32) (harg4 : arg4.IsWhole) (arg5 : Memref sig .tc .vmem S64x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x5120 .fp8e4m3) (harg8 : arg8.IsWhole) (arg9 : Memref sig .tc .vmem S256x1 .f32) (harg9 : arg9.IsWhole) (arg10 : Memref sig .tc .vmem S256x8192 .fp8e4m3) (harg10 : arg10.IsWhole) (arg11 : Memref sig .tc .vmem S256x1 .f32) (harg11 : arg11.IsWhole) (arg12 : Memref sig .tc .vmem S256x8192 .bf16) (harg12 : arg12.IsWhole) (arg13 : Memref sig .tc .vmem S8192x256 .bf16) (harg13 : arg13.IsWhole) (arg14 : Memref sig .tc .vmem S8192x256 .bf16) (harg14 : arg14.IsWhole) (arg15 : Memref sig .tc .vmem S256x5120 .f32) (harg15 : arg15.IsWhole) (arg16 : Memref sig .tc .vmem S256x128 .f32) (harg16 : arg16.IsWhole) (arg17 : Memref sig .tc .vmem S256x1 .f32) (harg17 : arg17.IsWhole) (k0_h1 : k0_cond1 i = 1#1)
    (X_arg2 : BufTy.Contents (Elt F) arg2.view.ty) (k : Fin k0_t1_loop.trips) :
    tripL_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 X_arg2 k
      = ([⟨Rect.unit (s := S256x8192) (k0_off1 k) S32x8192.size (k0_off1_inb i k k0_h1), k0_pay16 (k0_pay3 (chunk 32 (arg2.view.read (Elt F) X_arg2) k.val)) (xE (chunk 32 (arg2.view.read (Elt F) X_arg2) k.val)) 127#32⟩],
        ([⟨Rect.unit (s := S256x1) (k0_off2 k) S32x1.size (k0_off2_inb i k k0_h1), xS (chunk 32 (arg2.view.read (Elt F) X_arg2) k.val)⟩],
        ([⟨Rect.unit (s := S256x8192) (k0_off1 k) S32x8192.size (k0_off1_inb i k k0_h1), k0_pay17 (k0_pay3 (chunk 32 (arg2.view.read (Elt F) X_arg2) k.val)) (xE (chunk 32 (arg2.view.read (Elt F) X_arg2) k.val)) 127#32⟩],
        [⟨Rect.unit (s := S256x1) (k0_off2 k) S32x1.size (k0_off2_inb i k k0_h1), k0_pay18 (xS (chunk 32 (arg2.view.read (Elt F) X_arg2) k.val))⟩]))) := by
  rw [← readAt_rows arg2.view X_arg2 (k0_off1 k) k.val (k0_off1_eq k) (k0_off1_inb i k k0_h1)]
  unfold tripL_k0_t1 trip_k0_t1
  rfl

/-- After the quantisation of `x`, `arg10` holds what `Vals` names. -/
theorem loop1_arg10 (c : Dev nD) (i : grid0.Coords) (arg2 : Memref sig .tc .vmem S256x8192 .bf16) (harg2 : arg2.IsWhole) (arg3 : Memref sig .tc .vmem S8192x256 .i8) (harg3 : arg3.IsWhole) (arg4 : Memref sig .tc .vmem S64x256 .f32) (harg4 : arg4.IsWhole) (arg5 : Memref sig .tc .vmem S64x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x5120 .fp8e4m3) (harg8 : arg8.IsWhole) (arg9 : Memref sig .tc .vmem S256x1 .f32) (harg9 : arg9.IsWhole) (arg10 : Memref sig .tc .vmem S256x8192 .fp8e4m3) (harg10 : arg10.IsWhole) (arg11 : Memref sig .tc .vmem S256x1 .f32) (harg11 : arg11.IsWhole) (arg12 : Memref sig .tc .vmem S256x8192 .bf16) (harg12 : arg12.IsWhole) (arg13 : Memref sig .tc .vmem S8192x256 .bf16) (harg13 : arg13.IsWhole) (arg14 : Memref sig .tc .vmem S8192x256 .bf16) (harg14 : arg14.IsWhole) (arg15 : Memref sig .tc .vmem S256x5120 .f32) (harg15 : arg15.IsWhole) (arg16 : Memref sig .tc .vmem S256x128 .f32) (harg16 : arg16.IsWhole) (arg17 : Memref sig .tc .vmem S256x1 .f32) (harg17 : arg17.IsWhole) (k0_h1 : k0_cond1 i = 1#1)
    (X_arg2 : BufTy.Contents (Elt F) arg2.view.ty) (f : BufTy.Contents (Elt F) arg10.view.ty) (T : ℕ) (hT : T = k0_t1_loop.trips) :
    arg10.view.read (Elt F) (arg10.view.writes (Elt F) f (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 X_arg2 T).1) = XC (arg2.view.read (Elt F) X_arg2) := by
  subst hT
  refine read_rows (T := k0_t1_loop.trips) rfl arg10.view f _ k0_off1 k0_off1_eq (fun k => (k0_off1_inb i k k0_h1)) (fun n => (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 X_arg2 n).1) rfl ?_
  intro k
  dsimp only
  rw [pb_k0_t1_succ, trip1_eq]
  rfl

/-- After the quantisation of `x`, `arg11` holds what `Vals` names. -/
theorem loop1_arg11 (c : Dev nD) (i : grid0.Coords) (arg2 : Memref sig .tc .vmem S256x8192 .bf16) (harg2 : arg2.IsWhole) (arg3 : Memref sig .tc .vmem S8192x256 .i8) (harg3 : arg3.IsWhole) (arg4 : Memref sig .tc .vmem S64x256 .f32) (harg4 : arg4.IsWhole) (arg5 : Memref sig .tc .vmem S64x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x5120 .fp8e4m3) (harg8 : arg8.IsWhole) (arg9 : Memref sig .tc .vmem S256x1 .f32) (harg9 : arg9.IsWhole) (arg10 : Memref sig .tc .vmem S256x8192 .fp8e4m3) (harg10 : arg10.IsWhole) (arg11 : Memref sig .tc .vmem S256x1 .f32) (harg11 : arg11.IsWhole) (arg12 : Memref sig .tc .vmem S256x8192 .bf16) (harg12 : arg12.IsWhole) (arg13 : Memref sig .tc .vmem S8192x256 .bf16) (harg13 : arg13.IsWhole) (arg14 : Memref sig .tc .vmem S8192x256 .bf16) (harg14 : arg14.IsWhole) (arg15 : Memref sig .tc .vmem S256x5120 .f32) (harg15 : arg15.IsWhole) (arg16 : Memref sig .tc .vmem S256x128 .f32) (harg16 : arg16.IsWhole) (arg17 : Memref sig .tc .vmem S256x1 .f32) (harg17 : arg17.IsWhole) (k0_h1 : k0_cond1 i = 1#1)
    (X_arg2 : BufTy.Contents (Elt F) arg2.view.ty) (f : BufTy.Contents (Elt F) arg11.view.ty) (T : ℕ) (hT : T = k0_t1_loop.trips) :
    arg11.view.read (Elt F) (arg11.view.writes (Elt F) f (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 X_arg2 T).2.1) = XS (arg2.view.read (Elt F) X_arg2) := by
  subst hT
  refine read_rows (T := k0_t1_loop.trips) rfl arg11.view f _ k0_off2 k0_off2_eq (fun k => (k0_off2_inb i k k0_h1)) (fun n => (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 X_arg2 n).2.1) rfl ?_
  intro k
  dsimp only
  rw [pb_k0_t1_succ, trip1_eq]
  rfl

/-- After the quantisation of `x`, `arg12` holds what `Vals` names. -/
theorem loop1_arg12 (c : Dev nD) (i : grid0.Coords) (arg2 : Memref sig .tc .vmem S256x8192 .bf16) (harg2 : arg2.IsWhole) (arg3 : Memref sig .tc .vmem S8192x256 .i8) (harg3 : arg3.IsWhole) (arg4 : Memref sig .tc .vmem S64x256 .f32) (harg4 : arg4.IsWhole) (arg5 : Memref sig .tc .vmem S64x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x5120 .fp8e4m3) (harg8 : arg8.IsWhole) (arg9 : Memref sig .tc .vmem S256x1 .f32) (harg9 : arg9.IsWhole) (arg10 : Memref sig .tc .vmem S256x8192 .fp8e4m3) (harg10 : arg10.IsWhole) (arg11 : Memref sig .tc .vmem S256x1 .f32) (harg11 : arg11.IsWhole) (arg12 : Memref sig .tc .vmem S256x8192 .bf16) (harg12 : arg12.IsWhole) (arg13 : Memref sig .tc .vmem S8192x256 .bf16) (harg13 : arg13.IsWhole) (arg14 : Memref sig .tc .vmem S8192x256 .bf16) (harg14 : arg14.IsWhole) (arg15 : Memref sig .tc .vmem S256x5120 .f32) (harg15 : arg15.IsWhole) (arg16 : Memref sig .tc .vmem S256x128 .f32) (harg16 : arg16.IsWhole) (arg17 : Memref sig .tc .vmem S256x1 .f32) (harg17 : arg17.IsWhole) (k0_h1 : k0_cond1 i = 1#1)
    (X_arg2 : BufTy.Contents (Elt F) arg2.view.ty) (f : BufTy.Contents (Elt F) arg12.view.ty) (T : ℕ) (hT : T = k0_t1_loop.trips) :
    arg12.view.read (Elt F) (arg12.view.writes (Elt F) f (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 X_arg2 T).2.2.1) = XB (arg2.view.read (Elt F) X_arg2) := by
  subst hT
  refine read_rows (T := k0_t1_loop.trips) rfl arg12.view f _ k0_off1 k0_off1_eq (fun k => (k0_off1_inb i k k0_h1)) (fun n => (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 X_arg2 n).2.2.1) rfl ?_
  intro k
  dsimp only
  rw [pb_k0_t1_succ, trip1_eq]
  rfl

/-- After the quantisation of `x`, `arg17` holds what `Vals` names. -/
theorem loop1_arg17 (c : Dev nD) (i : grid0.Coords) (arg2 : Memref sig .tc .vmem S256x8192 .bf16) (harg2 : arg2.IsWhole) (arg3 : Memref sig .tc .vmem S8192x256 .i8) (harg3 : arg3.IsWhole) (arg4 : Memref sig .tc .vmem S64x256 .f32) (harg4 : arg4.IsWhole) (arg5 : Memref sig .tc .vmem S64x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x5120 .fp8e4m3) (harg8 : arg8.IsWhole) (arg9 : Memref sig .tc .vmem S256x1 .f32) (harg9 : arg9.IsWhole) (arg10 : Memref sig .tc .vmem S256x8192 .fp8e4m3) (harg10 : arg10.IsWhole) (arg11 : Memref sig .tc .vmem S256x1 .f32) (harg11 : arg11.IsWhole) (arg12 : Memref sig .tc .vmem S256x8192 .bf16) (harg12 : arg12.IsWhole) (arg13 : Memref sig .tc .vmem S8192x256 .bf16) (harg13 : arg13.IsWhole) (arg14 : Memref sig .tc .vmem S8192x256 .bf16) (harg14 : arg14.IsWhole) (arg15 : Memref sig .tc .vmem S256x5120 .f32) (harg15 : arg15.IsWhole) (arg16 : Memref sig .tc .vmem S256x128 .f32) (harg16 : arg16.IsWhole) (arg17 : Memref sig .tc .vmem S256x1 .f32) (harg17 : arg17.IsWhole) (k0_h1 : k0_cond1 i = 1#1)
    (X_arg2 : BufTy.Contents (Elt F) arg2.view.ty) (f : BufTy.Contents (Elt F) arg17.view.ty) (T : ℕ) (hT : T = k0_t1_loop.trips) :
    arg17.view.read (Elt F) (arg17.view.writes (Elt F) f (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 X_arg2 T).2.2.2) = TS (arg2.view.read (Elt F) X_arg2) := by
  subst hT
  refine read_rows (T := k0_t1_loop.trips) rfl arg17.view f _ k0_off2 k0_off2_eq (fun k => (k0_off2_inb i k k0_h1)) (fun n => (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 X_arg2 n).2.2.2) rfl ?_
  intro k
  dsimp only
  rw [pb_k0_t1_succ, trip1_eq]
  rfl

/-- One trip of the unpacking of the weights stores the chunks that `Vals` names. -/
theorem trip2_eq (c : Dev nD) (i : grid0.Coords) (arg2 : Memref sig .tc .vmem S256x8192 .bf16) (harg2 : arg2.IsWhole) (arg3 : Memref sig .tc .vmem S8192x256 .i8) (harg3 : arg3.IsWhole) (arg4 : Memref sig .tc .vmem S64x256 .f32) (harg4 : arg4.IsWhole) (arg5 : Memref sig .tc .vmem S64x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x5120 .fp8e4m3) (harg8 : arg8.IsWhole) (arg9 : Memref sig .tc .vmem S256x1 .f32) (harg9 : arg9.IsWhole) (arg10 : Memref sig .tc .vmem S256x8192 .fp8e4m3) (harg10 : arg10.IsWhole) (arg11 : Memref sig .tc .vmem S256x1 .f32) (harg11 : arg11.IsWhole) (arg12 : Memref sig .tc .vmem S256x8192 .bf16) (harg12 : arg12.IsWhole) (arg13 : Memref sig .tc .vmem S8192x256 .bf16) (harg13 : arg13.IsWhole) (arg14 : Memref sig .tc .vmem S8192x256 .bf16) (harg14 : arg14.IsWhole) (arg15 : Memref sig .tc .vmem S256x5120 .f32) (harg15 : arg15.IsWhole) (arg16 : Memref sig .tc .vmem S256x128 .f32) (harg16 : arg16.IsWhole) (arg17 : Memref sig .tc .vmem S256x1 .f32) (harg17 : arg17.IsWhole)
    (X_arg3 : BufTy.Contents (Elt F) arg3.view.ty) (X_arg4 : BufTy.Contents (Elt F) arg4.view.ty) (X_arg5 : BufTy.Contents (Elt F) arg5.view.ty) (k : Fin k0_t2_loop.trips) :
    tripL_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg3 X_arg4 X_arg5 k
      = ([⟨Rect.unit (s := S8192x256) (k0_off3 k) S128x256.size (k0_off3_inb k), k0_pay21 (chunk 128 (arg3.view.read (Elt F) X_arg3) k.val) (chunk 1 (arg4.view.read (Elt F) X_arg4) k.val)⟩],
        [⟨Rect.unit (s := S8192x256) (k0_off3 k) S128x256.size (k0_off3_inb k), k0_pay22 (chunk 128 (arg3.view.read (Elt F) X_arg3) k.val) (chunk 1 (arg5.view.read (Elt F) X_arg5) k.val)⟩]) := by
  rw [← readAt_rows arg3.view X_arg3 (k0_off3 k) k.val (k0_off3_eq k) (k0_off3_inb k)]
  rw [← readAt_rows arg4.view X_arg4 (k0_off4 k) k.val (k0_off4_eq' k) (k0_off4_inb k)]
  rw [← readAt_rows arg5.view X_arg5 (k0_off4 k) k.val (k0_off4_eq' k) (k0_off4_inb k)]
  unfold tripL_k0_t2 trip_k0_t2
  rfl

/-- After the unpacking of the weights, `arg13` holds what `Vals` names. -/
theorem loop2_arg13 (c : Dev nD) (i : grid0.Coords) (arg2 : Memref sig .tc .vmem S256x8192 .bf16) (harg2 : arg2.IsWhole) (arg3 : Memref sig .tc .vmem S8192x256 .i8) (harg3 : arg3.IsWhole) (arg4 : Memref sig .tc .vmem S64x256 .f32) (harg4 : arg4.IsWhole) (arg5 : Memref sig .tc .vmem S64x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x5120 .fp8e4m3) (harg8 : arg8.IsWhole) (arg9 : Memref sig .tc .vmem S256x1 .f32) (harg9 : arg9.IsWhole) (arg10 : Memref sig .tc .vmem S256x8192 .fp8e4m3) (harg10 : arg10.IsWhole) (arg11 : Memref sig .tc .vmem S256x1 .f32) (harg11 : arg11.IsWhole) (arg12 : Memref sig .tc .vmem S256x8192 .bf16) (harg12 : arg12.IsWhole) (arg13 : Memref sig .tc .vmem S8192x256 .bf16) (harg13 : arg13.IsWhole) (arg14 : Memref sig .tc .vmem S8192x256 .bf16) (harg14 : arg14.IsWhole) (arg15 : Memref sig .tc .vmem S256x5120 .f32) (harg15 : arg15.IsWhole) (arg16 : Memref sig .tc .vmem S256x128 .f32) (harg16 : arg16.IsWhole) (arg17 : Memref sig .tc .vmem S256x1 .f32) (harg17 : arg17.IsWhole)
    (X_arg3 : BufTy.Contents (Elt F) arg3.view.ty) (X_arg4 : BufTy.Contents (Elt F) arg4.view.ty) (X_arg5 : BufTy.Contents (Elt F) arg5.view.ty) (f : BufTy.Contents (Elt F) arg13.view.ty) (T : ℕ) (hT : T = k0_t2_loop.trips) :
    arg13.view.read (Elt F) (arg13.view.writes (Elt F) f (pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg3 X_arg4 X_arg5 T).1) = WG (arg3.view.read (Elt F) X_arg3) (arg4.view.read (Elt F) X_arg4) := by
  subst hT
  refine read_rows (T := k0_t2_loop.trips) rfl arg13.view f _ k0_off3 k0_off3_eq (fun k => (k0_off3_inb k)) (fun n => (pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg3 X_arg4 X_arg5 n).1) rfl ?_
  intro k
  dsimp only
  rw [pb_k0_t2_succ, trip2_eq]
  rfl

/-- After the unpacking of the weights, `arg14` holds what `Vals` names. -/
theorem loop2_arg14 (c : Dev nD) (i : grid0.Coords) (arg2 : Memref sig .tc .vmem S256x8192 .bf16) (harg2 : arg2.IsWhole) (arg3 : Memref sig .tc .vmem S8192x256 .i8) (harg3 : arg3.IsWhole) (arg4 : Memref sig .tc .vmem S64x256 .f32) (harg4 : arg4.IsWhole) (arg5 : Memref sig .tc .vmem S64x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x5120 .fp8e4m3) (harg8 : arg8.IsWhole) (arg9 : Memref sig .tc .vmem S256x1 .f32) (harg9 : arg9.IsWhole) (arg10 : Memref sig .tc .vmem S256x8192 .fp8e4m3) (harg10 : arg10.IsWhole) (arg11 : Memref sig .tc .vmem S256x1 .f32) (harg11 : arg11.IsWhole) (arg12 : Memref sig .tc .vmem S256x8192 .bf16) (harg12 : arg12.IsWhole) (arg13 : Memref sig .tc .vmem S8192x256 .bf16) (harg13 : arg13.IsWhole) (arg14 : Memref sig .tc .vmem S8192x256 .bf16) (harg14 : arg14.IsWhole) (arg15 : Memref sig .tc .vmem S256x5120 .f32) (harg15 : arg15.IsWhole) (arg16 : Memref sig .tc .vmem S256x128 .f32) (harg16 : arg16.IsWhole) (arg17 : Memref sig .tc .vmem S256x1 .f32) (harg17 : arg17.IsWhole)
    (X_arg3 : BufTy.Contents (Elt F) arg3.view.ty) (X_arg4 : BufTy.Contents (Elt F) arg4.view.ty) (X_arg5 : BufTy.Contents (Elt F) arg5.view.ty) (f : BufTy.Contents (Elt F) arg14.view.ty) (T : ℕ) (hT : T = k0_t2_loop.trips) :
    arg14.view.read (Elt F) (arg14.view.writes (Elt F) f (pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg3 X_arg4 X_arg5 T).2) = WU (arg3.view.read (Elt F) X_arg3) (arg5.view.read (Elt F) X_arg5) := by
  subst hT
  refine read_rows (T := k0_t2_loop.trips) rfl arg14.view f _ k0_off3 k0_off3_eq (fun k => (k0_off3_inb k)) (fun n => (pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg3 X_arg4 X_arg5 n).2) rfl ?_
  intro k
  dsimp only
  rw [pb_k0_t2_succ, trip2_eq]
  rfl

/-- One trip of the quantisation of `h` stores the chunks that `Vals` names. -/
theorem trip3_eq (c : Dev nD) (i : grid0.Coords) (arg2 : Memref sig .tc .vmem S256x8192 .bf16) (harg2 : arg2.IsWhole) (arg3 : Memref sig .tc .vmem S8192x256 .i8) (harg3 : arg3.IsWhole) (arg4 : Memref sig .tc .vmem S64x256 .f32) (harg4 : arg4.IsWhole) (arg5 : Memref sig .tc .vmem S64x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x5120 .fp8e4m3) (harg8 : arg8.IsWhole) (arg9 : Memref sig .tc .vmem S256x1 .f32) (harg9 : arg9.IsWhole) (arg10 : Memref sig .tc .vmem S256x8192 .fp8e4m3) (harg10 : arg10.IsWhole) (arg11 : Memref sig .tc .vmem S256x1 .f32) (harg11 : arg11.IsWhole) (arg12 : Memref sig .tc .vmem S256x8192 .bf16) (harg12 : arg12.IsWhole) (arg13 : Memref sig .tc .vmem S8192x256 .bf16) (harg13 : arg13.IsWhole) (arg14 : Memref sig .tc .vmem S8192x256 .bf16) (harg14 : arg14.IsWhole) (arg15 : Memref sig .tc .vmem S256x5120 .f32) (harg15 : arg15.IsWhole) (arg16 : Memref sig .tc .vmem S256x128 .f32) (harg16 : arg16.IsWhole) (arg17 : Memref sig .tc .vmem S256x1 .f32) (harg17 : arg17.IsWhole) (k0_h2 : k0_cond2 i = 1#1)
    (X_arg15 : BufTy.Contents (Elt F) arg15.view.ty) (X_arg16 : BufTy.Contents (Elt F) arg16.view.ty) (k : Fin k0_t3_loop.trips) :
    tripL_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 X_arg15 X_arg16 k
      = ([⟨Rect.unit (s := S256x5120) (k0_off7 k) S32x5120.size (k0_off7_inb i k k0_h2), k0_pay2 (hI (chunk 32 (arg16.view.read (Elt F) X_arg16) k.val)) 23#32 (chunk 32 (arg15.view.read (Elt F) X_arg15) k.val)⟩],
        [⟨Rect.unit (s := S256x1) (k0_off8 k) S32x1.size (k0_off8_inb i k k0_h2), hS (chunk 32 (arg16.view.read (Elt F) X_arg16) k.val)⟩]) := by
  rw [← readAt_rows arg16.view X_arg16 (k0_off6 k) k.val (k0_off6_eq k) (k0_off6_inb i k k0_h2)]
  rw [← readAt_rows arg15.view X_arg15 (k0_off7 k) k.val (k0_off7_eq k) (k0_off7_inb i k k0_h2)]
  unfold tripL_k0_t3 trip_k0_t3
  rfl

/-- After the quantisation of `h`, `arg8` holds what `Vals` names. -/
theorem loop3_arg8 (c : Dev nD) (i : grid0.Coords) (arg2 : Memref sig .tc .vmem S256x8192 .bf16) (harg2 : arg2.IsWhole) (arg3 : Memref sig .tc .vmem S8192x256 .i8) (harg3 : arg3.IsWhole) (arg4 : Memref sig .tc .vmem S64x256 .f32) (harg4 : arg4.IsWhole) (arg5 : Memref sig .tc .vmem S64x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x5120 .fp8e4m3) (harg8 : arg8.IsWhole) (arg9 : Memref sig .tc .vmem S256x1 .f32) (harg9 : arg9.IsWhole) (arg10 : Memref sig .tc .vmem S256x8192 .fp8e4m3) (harg10 : arg10.IsWhole) (arg11 : Memref sig .tc .vmem S256x1 .f32) (harg11 : arg11.IsWhole) (arg12 : Memref sig .tc .vmem S256x8192 .bf16) (harg12 : arg12.IsWhole) (arg13 : Memref sig .tc .vmem S8192x256 .bf16) (harg13 : arg13.IsWhole) (arg14 : Memref sig .tc .vmem S8192x256 .bf16) (harg14 : arg14.IsWhole) (arg15 : Memref sig .tc .vmem S256x5120 .f32) (harg15 : arg15.IsWhole) (arg16 : Memref sig .tc .vmem S256x128 .f32) (harg16 : arg16.IsWhole) (arg17 : Memref sig .tc .vmem S256x1 .f32) (harg17 : arg17.IsWhole) (k0_h2 : k0_cond2 i = 1#1)
    (X_arg15 : BufTy.Contents (Elt F) arg15.view.ty) (X_arg16 : BufTy.Contents (Elt F) arg16.view.ty) (f : BufTy.Contents (Elt F) arg8.view.ty) (T : ℕ) (hT : T = k0_t3_loop.trips) :
    arg8.view.read (Elt F) (arg8.view.writes (Elt F) f (pb_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 X_arg15 X_arg16 T).1) = HC (arg16.view.read (Elt F) X_arg16) (arg15.view.read (Elt F) X_arg15) := by
  subst hT
  refine read_rows (T := k0_t3_loop.trips) rfl arg8.view f _ k0_off7 k0_off7_eq (fun k => (k0_off7_inb i k k0_h2)) (fun n => (pb_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 X_arg15 X_arg16 n).1) rfl ?_
  intro k
  dsimp only
  rw [pb_k0_t3_succ, trip3_eq]
  rfl

/-- After the quantisation of `h`, `arg9` holds what `Vals` names. -/
theorem loop3_arg9 (c : Dev nD) (i : grid0.Coords) (arg2 : Memref sig .tc .vmem S256x8192 .bf16) (harg2 : arg2.IsWhole) (arg3 : Memref sig .tc .vmem S8192x256 .i8) (harg3 : arg3.IsWhole) (arg4 : Memref sig .tc .vmem S64x256 .f32) (harg4 : arg4.IsWhole) (arg5 : Memref sig .tc .vmem S64x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x5120 .fp8e4m3) (harg8 : arg8.IsWhole) (arg9 : Memref sig .tc .vmem S256x1 .f32) (harg9 : arg9.IsWhole) (arg10 : Memref sig .tc .vmem S256x8192 .fp8e4m3) (harg10 : arg10.IsWhole) (arg11 : Memref sig .tc .vmem S256x1 .f32) (harg11 : arg11.IsWhole) (arg12 : Memref sig .tc .vmem S256x8192 .bf16) (harg12 : arg12.IsWhole) (arg13 : Memref sig .tc .vmem S8192x256 .bf16) (harg13 : arg13.IsWhole) (arg14 : Memref sig .tc .vmem S8192x256 .bf16) (harg14 : arg14.IsWhole) (arg15 : Memref sig .tc .vmem S256x5120 .f32) (harg15 : arg15.IsWhole) (arg16 : Memref sig .tc .vmem S256x128 .f32) (harg16 : arg16.IsWhole) (arg17 : Memref sig .tc .vmem S256x1 .f32) (harg17 : arg17.IsWhole) (k0_h2 : k0_cond2 i = 1#1)
    (X_arg15 : BufTy.Contents (Elt F) arg15.view.ty) (X_arg16 : BufTy.Contents (Elt F) arg16.view.ty) (f : BufTy.Contents (Elt F) arg9.view.ty) (T : ℕ) (hT : T = k0_t3_loop.trips) :
    arg9.view.read (Elt F) (arg9.view.writes (Elt F) f (pb_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 X_arg15 X_arg16 T).2) = HS (arg16.view.read (Elt F) X_arg16) := by
  subst hT
  refine read_rows (T := k0_t3_loop.trips) rfl arg9.view f _ k0_off8 k0_off8_eq (fun k => (k0_off8_inb i k k0_h2)) (fun n => (pb_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 X_arg15 X_arg16 n).2) rfl ?_
  intro k
  dsimp only
  rw [pb_k0_t3_succ, trip3_eq]
  rfl

end Cert.KernelIdeal.Hand

end
-- ==== Proof.Body.lean ====
module

public import proofs.«01_k».proof.Proof.Rows
public import proofs.«01_k».proof.Proof.LoopVals
public import proofs.«01_k».proof.Proof.Gen.KernelIdeal.Frame
public import proofs.«01_k».proof.Proof.Gen.KernelIdeal.Loops

@[expose] public section

set_option maxRecDepth 16384

/-! # The kernel's body at the three kinds of grid point -/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Rows Cert.KernelIdeal.Gen Cert.KernelIdeal.Vals

variable {F : FTy → Type} [FloatOps F]

local notation "𝕄" => MT nD τ sig Unit (Elt F) ℕ (UR sig nD τ) ℕ

variable {Val : EltTy → Type} [∀ e, Nonempty (Val e)] in
/-- A load of a whole array reads what it holds. -/
theorem readAt_whole {κ : Kind} {sp : Space} {R C : ℕ} {e : EltTy} (v : View sig κ sp ⟨2, ![R, C]⟩ e)
    (f : v.ty.Contents Val) (inb) :
    v.readAt Val (Rect.unit (s := ⟨2, ![R, C]⟩) ![0, 0] ![R, C] inb).toLoadRect f = v.read Val f := by
  rw [View.readAt_eq_ld]
  funext y
  unfold View.ld
  refine congrArg _ (idx_ext ?_ ?_)
  · show 0 + 1 * (y 0).val = (y 0).val
    omega
  · show 0 + 1 * (y 1).val = (y 1).val
    omega

variable {Val : EltTy → Type} [∀ e, Nonempty (Val e)] in
/-- After a store of a whole array it holds what was stored. -/
theorem read_whole {κ : Kind} {sp : Space} {R C : ℕ} {e : EltTy} (v : View sig κ sp ⟨2, ![R, C]⟩ e)
    (f : v.ty.Contents Val) (w : (⟨2, ![R, C]⟩ : Shape).Idx → Val e) (l : List (View.Piece Val ⟨2, ![R, C]⟩ e)) (inb) :
    v.read Val (v.writes Val f (⟨Rect.unit (s := ⟨2, ![R, C]⟩) ![0, 0] ![R, C] inb, w⟩ :: l)) = w := by
  funext y
  have he : (Rect.unit (s := ⟨2, ![R, C]⟩) ![0, 0] ![R, C] inb).emb y = y := by
    refine idx_ext ?_ ?_
    · show 0 + 1 * (y 0).val = (y 0).val
      omega
    · show 0 + 1 * (y 1).val = (y 1).val
      omega
  have h := View.read_writes_cons_emb v f (Rect.unit (s := ⟨2, ![R, C]⟩) ![0, 0] ![R, C] inb) w l y
  rw [he] at h
  exact h

/-- Equal arguments give the same block of columns. -/
theorem pay24_congr {a a' b b' c c' d d' e e' f f'} (ha : a = a') (hb : b = b') (hc : c = c') (hd : d = d') (he : e = e') (hf : f = f') :
    k0_pay24 (F := F) a b c d e f = k0_pay24 a' b' c' d' e' f' := by subst ha hb hc hd he hf; rfl

/-- Equal arguments give the same absolute values. -/
theorem pay25_congr {a a' b b' c c' d d' e e' f f'} (ha : a = a') (hb : b = b') (hc : c = c') (hd : d = d') (he : e = e') (hf : f = f') :
    k0_pay25 (F := F) a b c d e f = k0_pay25 a' b' c' d' e' f' := by subst ha hb hc hd he hf; rfl

set_option maxHeartbeats 4000000 in
/-- The body at the first point of a row block: `x` is quantised and the maxima start from zero. -/
theorem runA (c : Dev nD) (E : Set ℕ) (i : grid0.Coords) (arg2 : Memref sig .tc .vmem S256x8192 .bf16) (harg2 : arg2.IsWhole) (arg3 : Memref sig .tc .vmem S8192x256 .i8) (harg3 : arg3.IsWhole) (arg4 : Memref sig .tc .vmem S64x256 .f32) (harg4 : arg4.IsWhole) (arg5 : Memref sig .tc .vmem S64x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x5120 .fp8e4m3) (harg8 : arg8.IsWhole) (arg9 : Memref sig .tc .vmem S256x1 .f32) (harg9 : arg9.IsWhole) (arg10 : Memref sig .tc .vmem S256x8192 .fp8e4m3) (harg10 : arg10.IsWhole) (arg11 : Memref sig .tc .vmem S256x1 .f32) (harg11 : arg11.IsWhole) (arg12 : Memref sig .tc .vmem S256x8192 .bf16) (harg12 : arg12.IsWhole) (arg13 : Memref sig .tc .vmem S8192x256 .bf16) (harg13 : arg13.IsWhole) (arg14 : Memref sig .tc .vmem S8192x256 .bf16) (harg14 : arg14.IsWhole) (arg15 : Memref sig .tc .vmem S256x5120 .f32) (harg15 : arg15.IsWhole) (arg16 : Memref sig .tc .vmem S256x128 .f32) (harg16 : arg16.IsWhole) (arg17 : Memref sig .tc .vmem S256x1 .f32) (harg17 : arg17.IsWhole) (k0_h1 : k0_cond1 i = 1#1) (k0_h2 : ¬ k0_cond2 i = 1#1)
    (x : Vec F S256x8192 .bf16) (w : Vec F S8192x256 .i8) (gg : Vec F S64x256 .f32) (gu : Vec F S64x256 .f32) (sg : Vec F S1x256 .f32) (su : Vec F S1x256 .f32) (d8 : Vec F S256x5120 .fp8e4m3) (d9 : Vec F S256x1 .f32) (d10 : Vec F S256x8192 .fp8e4m3) (d11 : Vec F S256x1 .f32) (xb : Vec F S256x8192 .bf16) (d13 : Vec F S8192x256 .bf16) (d14 : Vec F S8192x256 .bf16) (h : Vec F S256x5120 .f32) (am : Vec F S256x128 .f32) (ts : Vec F S256x1 .f32) (K : PUnit → sProp 𝕄) :
    iprop(owns (c : Thread nD τ) arg2 fullShare x ∗ owns (c : Thread nD τ) arg3 fullShare w ∗ owns (c : Thread nD τ) arg4 fullShare gg ∗ owns (c : Thread nD τ) arg5 fullShare gu ∗ owns (c : Thread nD τ) arg6 fullShare sg ∗ owns (c : Thread nD τ) arg7 fullShare su ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare xb ∗ owns (c : Thread nD τ) arg13 fullShare d13 ∗ owns (c : Thread nD τ) arg14 fullShare d14 ∗ owns (c : Thread nD τ) arg15 fullShare h ∗ owns (c : Thread nD τ) arg16 fullShare am ∗ owns (c : Thread nD τ) arg17 fullShare ts
        ∗ (iprop(owns (c : Thread nD τ) arg2 fullShare x ∗ owns (c : Thread nD τ) arg3 fullShare w ∗ owns (c : Thread nD τ) arg4 fullShare gg ∗ owns (c : Thread nD τ) arg5 fullShare gu ∗ owns (c : Thread nD τ) arg6 fullShare sg ∗ owns (c : Thread nD τ) arg7 fullShare su ∗ owns (c : Thread nD τ) arg8 fullShare d8 ∗ owns (c : Thread nD τ) arg9 fullShare d9 ∗ owns (c : Thread nD τ) arg10 fullShare (XC x) ∗ owns (c : Thread nD τ) arg11 fullShare (XS x) ∗ owns (c : Thread nD τ) arg12 fullShare (XB x) ∗ owns (c : Thread nD τ) arg13 fullShare (WG w gg) ∗ owns (c : Thread nD τ) arg14 fullShare (WU w gu) ∗ owns (c : Thread nD τ) arg15 fullShare (putCols 256 (i 1).val (HN (XB x) (TS x) w gg gu sg su) h) ∗ owns (c : Thread nD τ) arg16 fullShare (k0_pay1 (HA (XB x) (TS x) w gg gu sg su) (k0_pay19 (F := F))) ∗ owns (c : Thread nD τ) arg17 fullShare (TS x)) -∗ K ⟨⟩))
      ⊢ wp frame (wpE (defs₀ (F := F)) Variants.none c none) E (cc0_w4a8_gate_up i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_w4a8_gate_up_eq_skeleton]; unfold cc0_w4a8_gate_up_skel
  simp only [k0_part5_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  subst hf2 hf3 hf4 hf5 hf6 hf7 hf8 hf9 hf10 hf11 hf12 hf13 hf14 hf15 hf16 hf17
  sl_exec
  sl_step
  iapply Hk
  isplitl [H2]
  · iexists _; isplitr
    swap; · iexact H2
    ipureintro
    exact rfl
  isplitl [H3]
  · iexists _; isplitr
    swap; · iexact H3
    ipureintro
    exact rfl
  isplitl [H4]
  · iexists _; isplitr
    swap; · iexact H4
    ipureintro
    exact rfl
  isplitl [H5]
  · iexists _; isplitr
    swap; · iexact H5
    ipureintro
    exact rfl
  isplitl [H6]
  · iexists _; isplitr
    swap; · iexact H6
    ipureintro
    exact rfl
  isplitl [H7]
  · iexists _; isplitr
    swap; · iexact H7
    ipureintro
    exact rfl
  isplitl [H8]
  · iexists _; isplitr
    swap; · iexact H8
    ipureintro
    exact rfl
  isplitl [H9]
  · iexists _; isplitr
    swap; · iexact H9
    ipureintro
    exact rfl
  isplitl [H10]
  · iexists _; isplitr
    swap; · iexact H10
    ipureintro
    exact loop1_arg10 (hT := rfl) ..
  isplitl [H11]
  · iexists _; isplitr
    swap; · iexact H11
    ipureintro
    exact loop1_arg11 (hT := rfl) ..
  isplitl [H12]
  · iexists _; isplitr
    swap; · iexact H12
    ipureintro
    exact loop1_arg12 (hT := rfl) ..
  isplitl [H13]
  · iexists _; isplitr
    swap; · iexact H13
    ipureintro
    exact loop2_arg13 (hT := rfl) ..
  isplitl [H14]
  · iexists _; isplitr
    swap; · iexact H14
    ipureintro
    exact loop2_arg14 (hT := rfl) ..
  isplitl [H15]
  · iexists _; isplitr
    swap; · iexact H15
    ipureintro
    exact (read_cols _ _ _ _ (i 1).val (k0_off5_eq i) _).trans (congrArg (fun q => putCols 256 (i 1).val q _) (pay24_congr ((readAt_whole _ _ _).trans (loop1_arg12 (hT := rfl) ..)) ((readAt_whole _ _ _).trans (loop2_arg13 (hT := rfl) ..)) ((readAt_whole _ _ _).trans (loop2_arg14 (hT := rfl) ..)) ((readAt_whole _ _ _).trans (loop1_arg17 (hT := rfl) ..)) (readAt_whole _ _ _) (readAt_whole _ _ _)))
  isplitl [H16]
  · iexists _; isplitr
    swap; · iexact H16
    ipureintro
    exact (read_whole _ _ _ _ _).trans (congr (congrArg k0_pay1 (pay25_congr ((readAt_whole _ _ _).trans (loop1_arg12 (hT := rfl) ..)) ((readAt_whole _ _ _).trans (loop2_arg13 (hT := rfl) ..)) ((readAt_whole _ _ _).trans (loop2_arg14 (hT := rfl) ..)) ((readAt_whole _ _ _).trans (loop1_arg17 (hT := rfl) ..)) (readAt_whole _ _ _) (readAt_whole _ _ _))) ((View.readCov_unit_zero (h := by funext a; match a with | ⟨0, _⟩ => rfl | ⟨1, _⟩ => rfl) ..)))
  · iexists _; isplitr
    swap; · iexact H17
    ipureintro
    exact loop1_arg17 (hT := rfl) ..

set_option maxHeartbeats 4000000 in
/-- The body at the middle point of a row block. -/
theorem runB (c : Dev nD) (E : Set ℕ) (i : grid0.Coords) (arg2 : Memref sig .tc .vmem S256x8192 .bf16) (harg2 : arg2.IsWhole) (arg3 : Memref sig .tc .vmem S8192x256 .i8) (harg3 : arg3.IsWhole) (arg4 : Memref sig .tc .vmem S64x256 .f32) (harg4 : arg4.IsWhole) (arg5 : Memref sig .tc .vmem S64x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x5120 .fp8e4m3) (harg8 : arg8.IsWhole) (arg9 : Memref sig .tc .vmem S256x1 .f32) (harg9 : arg9.IsWhole) (arg10 : Memref sig .tc .vmem S256x8192 .fp8e4m3) (harg10 : arg10.IsWhole) (arg11 : Memref sig .tc .vmem S256x1 .f32) (harg11 : arg11.IsWhole) (arg12 : Memref sig .tc .vmem S256x8192 .bf16) (harg12 : arg12.IsWhole) (arg13 : Memref sig .tc .vmem S8192x256 .bf16) (harg13 : arg13.IsWhole) (arg14 : Memref sig .tc .vmem S8192x256 .bf16) (harg14 : arg14.IsWhole) (arg15 : Memref sig .tc .vmem S256x5120 .f32) (harg15 : arg15.IsWhole) (arg16 : Memref sig .tc .vmem S256x128 .f32) (harg16 : arg16.IsWhole) (arg17 : Memref sig .tc .vmem S256x1 .f32) (harg17 : arg17.IsWhole) (k0_h1 : ¬ k0_cond1 i = 1#1) (k0_h2 : ¬ k0_cond2 i = 1#1)
    (x : Vec F S256x8192 .bf16) (w : Vec F S8192x256 .i8) (gg : Vec F S64x256 .f32) (gu : Vec F S64x256 .f32) (sg : Vec F S1x256 .f32) (su : Vec F S1x256 .f32) (d8 : Vec F S256x5120 .fp8e4m3) (d9 : Vec F S256x1 .f32) (d10 : Vec F S256x8192 .fp8e4m3) (d11 : Vec F S256x1 .f32) (xb : Vec F S256x8192 .bf16) (d13 : Vec F S8192x256 .bf16) (d14 : Vec F S8192x256 .bf16) (h : Vec F S256x5120 .f32) (am : Vec F S256x128 .f32) (ts : Vec F S256x1 .f32) (K : PUnit → sProp 𝕄) :
    iprop(owns (c : Thread nD τ) arg2 fullShare x ∗ owns (c : Thread nD τ) arg3 fullShare w ∗ owns (c : Thread nD τ) arg4 fullShare gg ∗ owns (c : Thread nD τ) arg5 fullShare gu ∗ owns (c : Thread nD τ) arg6 fullShare sg ∗ owns (c : Thread nD τ) arg7 fullShare su ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare xb ∗ owns (c : Thread nD τ) arg13 fullShare d13 ∗ owns (c : Thread nD τ) arg14 fullShare d14 ∗ owns (c : Thread nD τ) arg15 fullShare h ∗ owns (c : Thread nD τ) arg16 fullShare am ∗ owns (c : Thread nD τ) arg17 fullShare ts
        ∗ (iprop(owns (c : Thread nD τ) arg2 fullShare x ∗ owns (c : Thread nD τ) arg3 fullShare w ∗ owns (c : Thread nD τ) arg4 fullShare gg ∗ owns (c : Thread nD τ) arg5 fullShare gu ∗ owns (c : Thread nD τ) arg6 fullShare sg ∗ owns (c : Thread nD τ) arg7 fullShare su ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare xb ∗ owns (c : Thread nD τ) arg13 fullShare (WG w gg) ∗ owns (c : Thread nD τ) arg14 fullShare (WU w gu) ∗ owns (c : Thread nD τ) arg15 fullShare (putCols 256 (i 1).val (HN xb ts w gg gu sg su) h) ∗ owns (c : Thread nD τ) arg16 fullShare (k0_pay1 (HA xb ts w gg gu sg su) am) ∗ owns (c : Thread nD τ) arg17 fullShare ts) -∗ K ⟨⟩))
      ⊢ wp frame (wpE (defs₀ (F := F)) Variants.none c none) E (cc0_w4a8_gate_up i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_w4a8_gate_up_eq_skeleton]; unfold cc0_w4a8_gate_up_skel
  simp only [k0_part5_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  subst hf2 hf3 hf4 hf5 hf6 hf7 hf8 hf9 hf10 hf11 hf12 hf13 hf14 hf15 hf16 hf17
  sl_exec
  sl_step
  iapply Hk
  isplitl [H2]
  · iexists _; isplitr
    swap; · iexact H2
    ipureintro
    exact rfl
  isplitl [H3]
  · iexists _; isplitr
    swap; · iexact H3
    ipureintro
    exact rfl
  isplitl [H4]
  · iexists _; isplitr
    swap; · iexact H4
    ipureintro
    exact rfl
  isplitl [H5]
  · iexists _; isplitr
    swap; · iexact H5
    ipureintro
    exact rfl
  isplitl [H6]
  · iexists _; isplitr
    swap; · iexact H6
    ipureintro
    exact rfl
  isplitl [H7]
  · iexists _; isplitr
    swap; · iexact H7
    ipureintro
    exact rfl
  isplitl [H8]
  · iexists _; isplitr
    swap; · iexact H8
    ipureintro
    exact rfl
  isplitl [H9]
  · iexists _; isplitr
    swap; · iexact H9
    ipureintro
    exact rfl
  isplitl [H10]
  · iexists _; isplitr
    swap; · iexact H10
    ipureintro
    exact rfl
  isplitl [H11]
  · iexists _; isplitr
    swap; · iexact H11
    ipureintro
    exact rfl
  isplitl [H12]
  · iexists _; isplitr
    swap; · iexact H12
    ipureintro
    exact rfl
  isplitl [H13]
  · iexists _; isplitr
    swap; · iexact H13
    ipureintro
    exact loop2_arg13 (hT := rfl) ..
  isplitl [H14]
  · iexists _; isplitr
    swap; · iexact H14
    ipureintro
    exact loop2_arg14 (hT := rfl) ..
  isplitl [H15]
  · iexists _; isplitr
    swap; · iexact H15
    ipureintro
    exact (read_cols _ _ _ _ (i 1).val (k0_off5_eq i) _).trans (congrArg (fun q => putCols 256 (i 1).val q _) (pay24_congr (readAt_whole _ _ _) ((readAt_whole _ _ _).trans (loop2_arg13 (hT := rfl) ..)) ((readAt_whole _ _ _).trans (loop2_arg14 (hT := rfl) ..)) (readAt_whole _ _ _) (readAt_whole _ _ _) (readAt_whole _ _ _)))
  isplitl [H16]
  · iexists _; isplitr
    swap; · iexact H16
    ipureintro
    exact (read_whole _ _ _ _ _).trans (congr (congrArg k0_pay1 (pay25_congr (readAt_whole _ _ _) ((readAt_whole _ _ _).trans (loop2_arg13 (hT := rfl) ..)) ((readAt_whole _ _ _).trans (loop2_arg14 (hT := rfl) ..)) (readAt_whole _ _ _) (readAt_whole _ _ _) (readAt_whole _ _ _))) (readAt_whole _ _ _))
  · iexists _; isplitr
    swap; · iexact H17
    ipureintro
    exact rfl

set_option maxHeartbeats 4000000 in
/-- The body at the last point of a row block: `h` is quantised. -/
theorem runC (c : Dev nD) (E : Set ℕ) (i : grid0.Coords) (arg2 : Memref sig .tc .vmem S256x8192 .bf16) (harg2 : arg2.IsWhole) (arg3 : Memref sig .tc .vmem S8192x256 .i8) (harg3 : arg3.IsWhole) (arg4 : Memref sig .tc .vmem S64x256 .f32) (harg4 : arg4.IsWhole) (arg5 : Memref sig .tc .vmem S64x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x5120 .fp8e4m3) (harg8 : arg8.IsWhole) (arg9 : Memref sig .tc .vmem S256x1 .f32) (harg9 : arg9.IsWhole) (arg10 : Memref sig .tc .vmem S256x8192 .fp8e4m3) (harg10 : arg10.IsWhole) (arg11 : Memref sig .tc .vmem S256x1 .f32) (harg11 : arg11.IsWhole) (arg12 : Memref sig .tc .vmem S256x8192 .bf16) (harg12 : arg12.IsWhole) (arg13 : Memref sig .tc .vmem S8192x256 .bf16) (harg13 : arg13.IsWhole) (arg14 : Memref sig .tc .vmem S8192x256 .bf16) (harg14 : arg14.IsWhole) (arg15 : Memref sig .tc .vmem S256x5120 .f32) (harg15 : arg15.IsWhole) (arg16 : Memref sig .tc .vmem S256x128 .f32) (harg16 : arg16.IsWhole) (arg17 : Memref sig .tc .vmem S256x1 .f32) (harg17 : arg17.IsWhole) (k0_h1 : ¬ k0_cond1 i = 1#1) (k0_h2 : k0_cond2 i = 1#1)
    (x : Vec F S256x8192 .bf16) (w : Vec F S8192x256 .i8) (gg : Vec F S64x256 .f32) (gu : Vec F S64x256 .f32) (sg : Vec F S1x256 .f32) (su : Vec F S1x256 .f32) (d8 : Vec F S256x5120 .fp8e4m3) (d9 : Vec F S256x1 .f32) (d10 : Vec F S256x8192 .fp8e4m3) (d11 : Vec F S256x1 .f32) (xb : Vec F S256x8192 .bf16) (d13 : Vec F S8192x256 .bf16) (d14 : Vec F S8192x256 .bf16) (h : Vec F S256x5120 .f32) (am : Vec F S256x128 .f32) (ts : Vec F S256x1 .f32) (K : PUnit → sProp 𝕄) :
    iprop(owns (c : Thread nD τ) arg2 fullShare x ∗ owns (c : Thread nD τ) arg3 fullShare w ∗ owns (c : Thread nD τ) arg4 fullShare gg ∗ owns (c : Thread nD τ) arg5 fullShare gu ∗ owns (c : Thread nD τ) arg6 fullShare sg ∗ owns (c : Thread nD τ) arg7 fullShare su ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare xb ∗ owns (c : Thread nD τ) arg13 fullShare d13 ∗ owns (c : Thread nD τ) arg14 fullShare d14 ∗ owns (c : Thread nD τ) arg15 fullShare h ∗ owns (c : Thread nD τ) arg16 fullShare am ∗ owns (c : Thread nD τ) arg17 fullShare ts
        ∗ (iprop(owns (c : Thread nD τ) arg2 fullShare x ∗ owns (c : Thread nD τ) arg3 fullShare w ∗ owns (c : Thread nD τ) arg4 fullShare gg ∗ owns (c : Thread nD τ) arg5 fullShare gu ∗ owns (c : Thread nD τ) arg6 fullShare sg ∗ owns (c : Thread nD τ) arg7 fullShare su ∗ owns (c : Thread nD τ) arg8 fullShare (HC (k0_pay1 (HA xb ts w gg gu sg su) am) (putCols 256 (i 1).val (HN xb ts w gg gu sg su) h)) ∗ owns (c : Thread nD τ) arg9 fullShare (HS (k0_pay1 (HA xb ts w gg gu sg su) am)) ∗ owns (c : Thread nD τ) arg10 fullShare d10 ∗ owns (c : Thread nD τ) arg11 fullShare d11 ∗ owns (c : Thread nD τ) arg12 fullShare xb ∗ owns (c : Thread nD τ) arg13 fullShare (WG w gg) ∗ owns (c : Thread nD τ) arg14 fullShare (WU w gu) ∗ owns (c : Thread nD τ) arg15 fullShare (putCols 256 (i 1).val (HN xb ts w gg gu sg su) h) ∗ owns (c : Thread nD τ) arg16 fullShare (k0_pay1 (HA xb ts w gg gu sg su) am) ∗ owns (c : Thread nD τ) arg17 fullShare ts) -∗ K ⟨⟩))
      ⊢ wp frame (wpE (defs₀ (F := F)) Variants.none c none) E (cc0_w4a8_gate_up i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_w4a8_gate_up_eq_skeleton]; unfold cc0_w4a8_gate_up_skel
  simp only [k0_part5_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  subst hf2 hf3 hf4 hf5 hf6 hf7 hf8 hf9 hf10 hf11 hf12 hf13 hf14 hf15 hf16 hf17
  sl_exec
  sl_step
  iapply Hk
  isplitl [H2]
  · iexists _; isplitr
    swap; · iexact H2
    ipureintro
    exact rfl
  isplitl [H3]
  · iexists _; isplitr
    swap; · iexact H3
    ipureintro
    exact rfl
  isplitl [H4]
  · iexists _; isplitr
    swap; · iexact H4
    ipureintro
    exact rfl
  isplitl [H5]
  · iexists _; isplitr
    swap; · iexact H5
    ipureintro
    exact rfl
  isplitl [H6]
  · iexists _; isplitr
    swap; · iexact H6
    ipureintro
    exact rfl
  isplitl [H7]
  · iexists _; isplitr
    swap; · iexact H7
    ipureintro
    exact rfl
  isplitl [H8]
  · iexists _; isplitr
    swap; · iexact H8
    ipureintro
    exact (loop3_arg8 (hT := rfl) ..).trans (congr (congrArg HC ((read_whole _ _ _ _ _).trans (congr (congrArg k0_pay1 (pay25_congr (readAt_whole _ _ _) ((readAt_whole _ _ _).trans (loop2_arg13 (hT := rfl) ..)) ((readAt_whole _ _ _).trans (loop2_arg14 (hT := rfl) ..)) (readAt_whole _ _ _) (readAt_whole _ _ _) (readAt_whole _ _ _))) (readAt_whole _ _ _)))) ((read_cols _ _ _ _ (i 1).val (k0_off5_eq i) _).trans (congrArg (fun q => putCols 256 (i 1).val q _) (pay24_congr (readAt_whole _ _ _) ((readAt_whole _ _ _).trans (loop2_arg13 (hT := rfl) ..)) ((readAt_whole _ _ _).trans (loop2_arg14 (hT := rfl) ..)) (readAt_whole _ _ _) (readAt_whole _ _ _) (readAt_whole _ _ _)))))
  isplitl [H9]
  · iexists _; isplitr
    swap; · iexact H9
    ipureintro
    exact (loop3_arg9 (hT := rfl) ..).trans (congrArg HS ((read_whole _ _ _ _ _).trans (congr (congrArg k0_pay1 (pay25_congr (readAt_whole _ _ _) ((readAt_whole _ _ _).trans (loop2_arg13 (hT := rfl) ..)) ((readAt_whole _ _ _).trans (loop2_arg14 (hT := rfl) ..)) (readAt_whole _ _ _) (readAt_whole _ _ _) (readAt_whole _ _ _))) (readAt_whole _ _ _))))
  isplitl [H10]
  · iexists _; isplitr
    swap; · iexact H10
    ipureintro
    exact rfl
  isplitl [H11]
  · iexists _; isplitr
    swap; · iexact H11
    ipureintro
    exact rfl
  isplitl [H12]
  · iexists _; isplitr
    swap; · iexact H12
    ipureintro
    exact rfl
  isplitl [H13]
  · iexists _; isplitr
    swap; · iexact H13
    ipureintro
    exact loop2_arg13 (hT := rfl) ..
  isplitl [H14]
  · iexists _; isplitr
    swap; · iexact H14
    ipureintro
    exact loop2_arg14 (hT := rfl) ..
  isplitl [H15]
  · iexists _; isplitr
    swap; · iexact H15
    ipureintro
    exact (read_cols _ _ _ _ (i 1).val (k0_off5_eq i) _).trans (congrArg (fun q => putCols 256 (i 1).val q _) (pay24_congr (readAt_whole _ _ _) ((readAt_whole _ _ _).trans (loop2_arg13 (hT := rfl) ..)) ((readAt_whole _ _ _).trans (loop2_arg14 (hT := rfl) ..)) (readAt_whole _ _ _) (readAt_whole _ _ _) (readAt_whole _ _ _)))
  isplitl [H16]
  · iexists _; isplitr
    swap; · iexact H16
    ipureintro
    exact (read_whole _ _ _ _ _).trans (congr (congrArg k0_pay1 (pay25_congr (readAt_whole _ _ _) ((readAt_whole _ _ _).trans (loop2_arg13 (hT := rfl) ..)) ((readAt_whole _ _ _).trans (loop2_arg14 (hT := rfl) ..)) (readAt_whole _ _ _) (readAt_whole _ _ _) (readAt_whole _ _ _))) (readAt_whole _ _ _))
  · iexists _; isplitr
    swap; · iexact H17
    ipureintro
    exact rfl

end Cert.KernelIdeal.Hand

end
-- ==== Proof.Blocks.lean ====
module

public import proofs.«01_k».proof.Proof.Body
public import Idealize.ShloMosaic.Lib.Pipeline.ValueKit.Geometry

@[expose] public section

set_option maxRecDepth 16384

/-! # The grid's points, and the block each window shows there -/

noncomputable section

namespace Cert.KernelIdeal.Hand

open Idealize.ShloMosaic Idealize.ShloMosaic.TcCoe Idealize.ShloMosaic.Tactic
open Cert.Rows Cert.KernelIdeal.Gen Cert.KernelIdeal.Vals

variable {F : FTy → Type} [FloatOps F]
variable (m : (ℓ : Loc nD τ sig) → Buf (Elt F) ℓ)

/-- The row block of a point. -/
theorem coords_0 (t : Fin grid0.N) : (grid0.coords t 0).val = t.val / 20 := by
  have h := t.isLt
  have hN : grid0.N = 480 := N_0
  rw [Pipeline.Grid.coords_val t 0 (S := 20) (B := 24) (by decide) rfl]
  omega

/-- The column block of a point. -/
theorem coords_1 (t : Fin grid0.N) : (grid0.coords t 1).val = t.val % 20 := by
  rw [Pipeline.Grid.coords_val t 1 (S := 1) (B := 20) (by decide) rfl, Nat.div_one]

/-- The first branch is taken at the first point of a row block, -/
theorem cond1_iff (t : Fin grid0.N) : k0_cond1 (grid0.coords t) = 1#1 ↔ t.val % 20 = 0 :=
  (by decide +kernel : ∀ t : Fin grid0.N, k0_cond1 (grid0.coords t) = 1#1 ↔ t.val % 20 = 0) t

/-- the second at its last. -/
theorem cond2_iff (t : Fin grid0.N) : k0_cond2 (grid0.coords t) = 1#1 ↔ t.val % 20 = 19 :=
  (by decide +kernel : ∀ t : Fin grid0.N, k0_cond2 (grid0.coords t) = 1#1 ↔ t.val % 20 = 19) t

/-- Where the block of `x` is at a point. -/
theorem index_0 : ∀ t : Fin grid0.N, win0_0.index t = ![t.val / 20, 0] := by decide +kernel
/-- Where the block of the packed weights is at a point. -/
theorem index_1 : ∀ t : Fin grid0.N, win0_1.index t = ![0, t.val % 20] := by decide +kernel
/-- Where the block of the gate group scales is at a point. -/
theorem index_2 : ∀ t : Fin grid0.N, win0_2.index t = ![0, t.val % 20] := by decide +kernel
/-- Where the block of the up group scales is at a point. -/
theorem index_3 : ∀ t : Fin grid0.N, win0_3.index t = ![0, t.val % 20 + 20] := by decide +kernel
/-- Where the block of the gate column scales is at a point. -/
theorem index_4 : ∀ t : Fin grid0.N, win0_4.index t = ![0, t.val % 20] := by decide +kernel
/-- Where the block of the up column scales is at a point. -/
theorem index_5 : ∀ t : Fin grid0.N, win0_5.index t = ![0, t.val % 20 + 20] := by decide +kernel
/-- Where the block of the codes of `h` is at a point. -/
theorem index_6 : ∀ t : Fin grid0.N, win0_6.index t = ![t.val / 20, 0] := by decide +kernel
/-- Where the block of the scales of `h` is at a point. -/
theorem index_7 : ∀ t : Fin grid0.N, win0_7.index t = ![t.val / 20, 0] := by decide +kernel
/-- Where the block of the codes of `x` is at a point. -/
theorem index_8 : ∀ t : Fin grid0.N, win0_8.index t = ![t.val / 20, 0] := by decide +kernel
/-- Where the block of the scales of `x` is at a point. -/
theorem index_9 : ∀ t : Fin grid0.N, win0_9.index t = ![t.val / 20, 0] := by decide +kernel

/-- The block of `x` at a point: the rows of its row block. -/
theorem iblk_0 (c : Dev nD) (t : Fin cfg0.N) (y : S256x8192.Idx) :
    iblk m c 0 t y = V m c main_v1 (ix2 ⟨t.val / 20 * 256 + (y 0).val, by
      have h := t.isLt; have hN : grid0.N = 480 := N_0; have h0 : (y 0).val < 256 := (y 0).isLt
      have h' : t.val < grid0.N := h
      omega⟩ (y 1)) := by
  unfold iblk
  rw [View.read_apply]
  refine congrArg (V m c main_v1) (idx_ext ?_ ?_)
  · blk_simp [index_0]
  · blk_simp [index_0]

/-- The block of packed weights at a point: the columns of its column block. -/
theorem iblk_1 (c : Dev nD) (t : Fin cfg0.N) (y : S8192x256.Idx) :
    iblk m c 1 t y = V m c main_arg1 (ix2 (y 0) ⟨t.val % 20 * 256 + (y 1).val, by
      have h := t.isLt; have hN : grid0.N = 480 := N_0; have h0 : (y 1).val < 256 := (y 1).isLt
      have h' : t.val < grid0.N := h
      omega⟩) := by
  unfold iblk
  rw [View.read_apply]
  refine congrArg (V m c main_arg1) (idx_ext ?_ ?_)
  · blk_simp [index_1]
  · blk_simp [index_1]

/-- The gate group scales of those columns. -/
theorem iblk_2 (c : Dev nD) (t : Fin cfg0.N) (y : S64x256.Idx) :
    iblk m c 2 t y = V m c main_arg2 (ix2 (y 0) ⟨t.val % 20 * 256 + (y 1).val, by
      have h := t.isLt; have hN : grid0.N = 480 := N_0; have h0 : (y 1).val < 256 := (y 1).isLt
      have h' : t.val < grid0.N := h
      omega⟩) := by
  unfold iblk
  rw [View.read_apply]
  refine congrArg (V m c main_arg2) (idx_ext ?_ ?_)
  · blk_simp [index_2]
  · blk_simp [index_2]

/-- The up group scales of those columns. -/
theorem iblk_3 (c : Dev nD) (t : Fin cfg0.N) (y : S64x256.Idx) :
    iblk m c 3 t y = V m c main_arg2 (ix2 (y 0) ⟨(t.val % 20 + 20) * 256 + (y 1).val, by
      have h := t.isLt; have hN : grid0.N = 480 := N_0; have h0 : (y 1).val < 256 := (y 1).isLt
      have h' : t.val < grid0.N := h
      omega⟩) := by
  unfold iblk
  rw [View.read_apply]
  refine congrArg (V m c main_arg2) (idx_ext ?_ ?_)
  · blk_simp [index_3]
  · blk_simp [index_3]

/-- The gate column scales. -/
theorem iblk_4 (c : Dev nD) (t : Fin cfg0.N) (y : S1x256.Idx) :
    iblk m c 4 t y = V m c main_v0 (ix2 (y 0) ⟨t.val % 20 * 256 + (y 1).val, by
      have h := t.isLt; have hN : grid0.N = 480 := N_0; have h0 : (y 1).val < 256 := (y 1).isLt
      have h' : t.val < grid0.N := h
      omega⟩) := by
  unfold iblk
  rw [View.read_apply]
  refine congrArg (V m c main_v0) (idx_ext ?_ ?_)
  · blk_simp [index_4]
  · blk_simp [index_4]

/-- The up column scales. -/
theorem iblk_5 (c : Dev nD) (t : Fin cfg0.N) (y : S1x256.Idx) :
    iblk m c 5 t y = V m c main_v0 (ix2 (y 0) ⟨(t.val % 20 + 20) * 256 + (y 1).val, by
      have h := t.isLt; have hN : grid0.N = 480 := N_0; have h0 : (y 1).val < 256 := (y 1).isLt
      have h' : t.val < grid0.N := h
      omega⟩) := by
  unfold iblk
  rw [View.read_apply]
  refine congrArg (V m c main_v0) (idx_ext ?_ ?_)
  · blk_simp [index_5]
  · blk_simp [index_5]

/-- The block of `x` is the same at every point of a row block. -/
theorem iblk_0_row (c : Dev nD) (t t' : Fin cfg0.N) (h : t.val / 20 = t'.val / 20) : iblk m c 0 t = iblk m c 0 t' := by
  funext y
  rw [iblk_0, iblk_0]
  refine congrArg (V m c main_v1) (idx_ext ?_ rfl)
  show t.val / 20 * 256 + (y 0).val = t'.val / 20 * 256 + (y 0).val
  rw [h]

end Cert.KernelIdeal.Hand

end
-- ==== Proof.Run.lean ====
module

public import proofs.«01_k».proof.Proof.Blocks
public import Idealize.ShloMosaic.Lib.Pipeline.TableIdle
public import Idealize.ShloMosaic.Lib.Claim

@[expose] public section

set_option maxRecDepth 16384

/-! # The kernel's run

What the windows and the scratch buffers hold at every grid point, the body at every point, and the whole run: it ends
with every argument unchanged and every result at what the pipeline writes back. -/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Rows Cert.KernelIdeal.Gen Cert.KernelIdeal.Vals

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the scratch buffers hold -/

/-- The columns of `h` computed at a point. -/
def hn (c : Dev nD) (t : Fin cfg0.N) : FVec F S256x256 .f32 :=
  HN (XB (iblk m c 0 t)) (TS (iblk m c 0 t)) (iblk m c 1 t) (iblk m c 2 t) (iblk m c 3 t) (iblk m c 4 t) (iblk m c 5 t)
/-- Their absolute values. -/
def ha (c : Dev nD) (t : Fin cfg0.N) : FVec F S256x256 .f32 :=
  HA (XB (iblk m c 0 t)) (TS (iblk m c 0 t)) (iblk m c 1 t) (iblk m c 2 t) (iblk m c 3 t) (iblk m c 4 t) (iblk m c 5 t)
/-- The running maxima after a point: started anew at the first point of a row block. -/
def am (c : Dev nD) : (n : ℕ) → n < cfg0.N → Vec F S256x128 .f32
  | 0, h => k0_pay1 (ha m c ⟨0, h⟩) k0_pay19
  | n + 1, h => if (n + 1) % 20 = 0 then k0_pay1 (ha m c ⟨n + 1, h⟩) k0_pay19
      else k0_pay1 (ha m c ⟨n + 1, h⟩) (am c n (Nat.lt_of_succ_lt h))
/-- The point of a row block at which a column of `h` is computed. -/
def ptOf (t : Fin cfg0.N) (q : Fin 5120) : Fin cfg0.N :=
  ⟨t.val / 20 * 20 + q.val / 256, by have h : t.val < grid0.N := t.isLt; have hN : grid0.N = 480 := N_0; have hq := q.isLt; show _ < grid0.N; omega⟩
/-- The whole of `h` for a row block. -/
def hv (c : Dev nD) (t : Fin cfg0.N) : Vec F S256x5120 .f32 :=
  fun y => hn m c (ptOf t (y 1)) (ix2 (y 0) ⟨(y 1).val % 256, Nat.mod_lt _ (by decide)⟩)

/-- At the first point of a row block the running maxima start from zero, -/
theorem am_first (c : Dev nD) (t : Fin cfg0.N) (h : t.val % 20 = 0) : am m c t.val t.isLt = k0_pay1 (ha m c t) k0_pay19 := by
  obtain ⟨n, hn⟩ := t
  cases n with
  | zero => rfl
  | succ n => unfold am; rw [if_pos h]

/-- at every other point they go on from the point before. -/
theorem am_next (c : Dev nD) (t : Fin cfg0.N) (h : t.val % 20 ≠ 0) :
    am m c t.val t.isLt = k0_pay1 (ha m c t) (am m c (t.val - 1) (by have := t.isLt; omega)) := by
  obtain ⟨n, hn⟩ := t
  cases n with
  | zero => exact absurd rfl h
  | succ n => rw [am, if_neg h]; rfl

/-- What is known of the scratch buffers between two points: nothing between row blocks; within one, `x` quantised, its
    scales, the maxima so far, and the columns of `h` computed so far. -/
def Known (c : Dev nD) (n : ℕ) (xb : Vec F S256x8192 .bf16) (h : Vec F S256x5120 .f32) (a : Vec F S256x128 .f32)
    (ts : Vec F S256x1 .f32) : Prop :=
  n % 20 ≠ 0 → ∀ t : Fin cfg0.N, t.val + 1 = n → xb = XB (iblk m c 0 t) ∧ ts = TS (iblk m c 0 t) ∧ a = am m c t.val t.isLt
    ∧ ∀ y, (y 1).val < 256 * (n % 20) → h y = hv m c t y

/-- The invariant between two points. -/
def Inv (c : Dev nD) (n : ℕ) : sProp 𝕄 :=
  iprop(∃ (xb : Vec F S256x8192 .bf16) (wg : Vec F S8192x256 .bf16) (wu : Vec F S8192x256 .bf16) (h : Vec F S256x5120 .f32)
      (a : Vec F S256x128 .f32) (ts : Vec F S256x1 .f32), ⌜Known m c n xb h a ts⌝
    ∗ owns (c : Thread nD τ) (Memref.whole cc0_scratch0) fullShare xb
    ∗ owns (c : Thread nD τ) (Memref.whole cc0_scratch1) fullShare wg
    ∗ owns (c : Thread nD τ) (Memref.whole cc0_scratch2) fullShare wu
    ∗ owns (c : Thread nD τ) (Memref.whole cc0_scratch3) fullShare h
    ∗ owns (c : Thread nD τ) (Memref.whole cc0_scratch4) fullShare a
    ∗ owns (c : Thread nD τ) (Memref.whole cc0_scratch5) fullShare ts
    ∗ ∃ r, prngReg c r)

/-! ## The columns of `h`, one point after another -/

/-- All points of a row block speak of one `h`. -/
theorem hv_row (c : Dev nD) (t t' : Fin cfg0.N) (h : t.val / 20 = t'.val / 20) : hv m c t = hv m c t' := by
  funext y
  unfold hv
  have : ptOf t (y 1) = ptOf t' (y 1) := Fin.ext (by show t.val / 20 * 20 + _ = t'.val / 20 * 20 + _; rw [h])
  rw [this]

/-- After a point the columns computed so far include that point's. -/
theorem hv_put (c : Dev nD) (t : Fin cfg0.N) (h : Vec F S256x5120 .f32)
    (hh : ∀ y, (y 1).val < 256 * (t.val % 20) → h y = hv m c t y) :
    ∀ y, (y 1).val < 256 * (t.val % 20 + 1) → putCols 256 (t.val % 20) (hn m c t) h y = hv m c t y := by
  intro y hy
  unfold putCols
  split
  · next e =>
    unfold hv
    have : ptOf t (y 1) = t := Fin.ext (by show t.val / 20 * 20 + (y 1).val / 256 = t.val; rw [e]; omega)
    rw [this]
  · next e => exact hh y (by omega)

/-- What is known after the first point of a row block. -/
theorem known_first (c : Dev nD) (t : Fin cfg0.N) (ht : t.val % 20 = 0) (h : Vec F S256x5120 .f32) :
    Known m c (t.val + 1) (XB (iblk m c 0 t)) (putCols 256 (grid0.coords t 1).val (hn m c t) h)
      (k0_pay1 (ha m c t) k0_pay19) (TS (iblk m c 0 t)) := by
  intro _ t' e
  obtain rfl : t' = t := Fin.ext (by omega)
  refine ⟨rfl, rfl, (am_first m c t' ht).symm, fun y hy => ?_⟩
  rw [coords_1]
  exact hv_put m c t' h (fun y hy => absurd hy (by omega)) y (by omega)

/-- What is known after any later point. -/
theorem known_next (c : Dev nD) (t : Fin cfg0.N) (ht : t.val % 20 ≠ 0) (xb h a ts) (hk : Known m c t.val xb h a ts) :
    xb = XB (iblk m c 0 t) ∧ ts = TS (iblk m c 0 t) ∧ k0_pay1 (ha m c t) a = am m c t.val t.isLt ∧
      (∀ y, (y 1).val < 256 * (t.val % 20 + 1) → putCols 256 (grid0.coords t 1).val (hn m c t) h y = hv m c t y) := by
  have hlt := t.isLt
  obtain ⟨h1, h2, h3, h4⟩ := hk ht ⟨t.val - 1, by omega⟩ (by show t.val - 1 + 1 = t.val; omega)
  have hrow : (⟨t.val - 1, by omega⟩ : Fin cfg0.N).val / 20 = t.val / 20 := by show (t.val - 1) / 20 = t.val / 20; omega
  rw [iblk_0_row m c _ t hrow] at h1 h2
  rw [hv_row m c _ t hrow] at h4
  refine ⟨h1, h2, ?_, ?_⟩
  · rw [am_next m c t ht, h3]
  · rw [coords_1]
    exact hv_put m c t h h4

/-- What is known of the scratch at a point. -/
theorem known_of (c : Dev nD) (t : Fin cfg0.N) (xb h a ts)
    (hk : xb = XB (iblk m c 0 t) ∧ ts = TS (iblk m c 0 t) ∧ a = am m c t.val t.isLt ∧
      (∀ y, (y 1).val < 256 * (t.val % 20 + 1) → h y = hv m c t y)) : Known m c (t.val + 1) xb h a ts := by
  intro hn t' e
  obtain rfl : t' = t := Fin.ext (by omega)
  exact ⟨hk.1, hk.2.1, hk.2.2.1, fun y hy => hk.2.2.2 y (by omega)⟩

/-- At the last point of a row block every column is computed. -/
theorem hv_full (c : Dev nD) (t : Fin cfg0.N) (ht : t.val % 20 = 19) (h : Vec F S256x5120 .f32)
    (hh : ∀ y, (y 1).val < 256 * (t.val % 20 + 1) → h y = hv m c t y) : h = hv m c t :=
  funext fun y => hh y (by have : (y 1).val < 5120 := (y 1).isLt; omega)

/-! ## The pipeline's proof data -/

/-- The proof data: the arrays as the region finds them; after the body at a point each input's buffer at its block and
    each output's at the row block's value; the invariant above; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => HC (am m c t.val t.isLt) (hv m c t)
    | ⟨7, _⟩ => HS (am m c t.val t.isLt)
    | ⟨8, _⟩ => XC (iblk m c 0 t)
    | ⟨9, _⟩ => XS (iblk m c 0 t)
  Φ n := Inv m c n.val
  q := Pipeline.shareOf spec0
  owed _ := 0

/-- The proof data start from the arrays that the region finds. -/
theorem A_eq (c : Dev nD) (w : Fin cfg0.W) : (dats m 0 c).A w = V m c (Pipeline.arrRef spec0 w) := by
  dsimp only [dats]

/-- What the body leaves in the buffer of `x`. -/
theorem after0_0 (c : Dev nD) (t : Fin cfg0.N) : (dats m 0 c).after 0 t = iblk m c 0 t := by dsimp only [dats]
/-- What the body leaves in the buffer of the packed weights. -/
theorem after0_1 (c : Dev nD) (t : Fin cfg0.N) : (dats m 0 c).after 1 t = iblk m c 1 t := by dsimp only [dats]
/-- What the body leaves in the buffer of the gate group scales. -/
theorem after0_2 (c : Dev nD) (t : Fin cfg0.N) : (dats m 0 c).after 2 t = iblk m c 2 t := by dsimp only [dats]
/-- What the body leaves in the buffer of the up group scales. -/
theorem after0_3 (c : Dev nD) (t : Fin cfg0.N) : (dats m 0 c).after 3 t = iblk m c 3 t := by dsimp only [dats]
/-- What the body leaves in the buffer of the gate column scales. -/
theorem after0_4 (c : Dev nD) (t : Fin cfg0.N) : (dats m 0 c).after 4 t = iblk m c 4 t := by dsimp only [dats]
/-- What the body leaves in the buffer of the up column scales. -/
theorem after0_5 (c : Dev nD) (t : Fin cfg0.N) : (dats m 0 c).after 5 t = iblk m c 5 t := by dsimp only [dats]
/-- What the body leaves in the buffer of the codes of `h`. -/
theorem after0_6 (c : Dev nD) (t : Fin cfg0.N) : (dats m 0 c).after 6 t = HC (am m c t.val t.isLt) (hv m c t) := by dsimp only [dats]
/-- What the body leaves in the buffer of the scales of `h`. -/
theorem after0_7 (c : Dev nD) (t : Fin cfg0.N) : (dats m 0 c).after 7 t = HS (am m c t.val t.isLt) := by dsimp only [dats]
/-- What the body leaves in the buffer of the codes of `x`. -/
theorem after0_8 (c : Dev nD) (t : Fin cfg0.N) : (dats m 0 c).after 8 t = XC (iblk m c 0 t) := by dsimp only [dats]
/-- What the body leaves in the buffer of the scales of `x`. -/
theorem after0_9 (c : Dev nD) (t : Fin cfg0.N) : (dats m 0 c).after 9 t = XS (iblk m c 0 t) := by dsimp only [dats]

/-- What the body finds in the buffer of `x`. -/
theorem before0_0 (c : Dev nD) (t : Fin cfg0.N) (d) : (dats m 0 c).before 0 t d = iblk m c 0 t :=
  before0_0_of m (dats m 0 c) (A_eq m c 0) (after0_0 m c) t d
/-- What the body finds in the buffer of the packed weights. -/
theorem before0_1 (c : Dev nD) (t : Fin cfg0.N) (d) : (dats m 0 c).before 1 t d = iblk m c 1 t :=
  before0_1_of m (dats m 0 c) (A_eq m c 1) (after0_1 m c) t d
/-- What the body finds in the buffer of the gate group scales. -/
theorem before0_2 (c : Dev nD) (t : Fin cfg0.N) (d) : (dats m 0 c).before 2 t d = iblk m c 2 t :=
  before0_2_of m (dats m 0 c) (A_eq m c 2) (after0_2 m c) t d
/-- What the body finds in the buffer of the up group scales. -/
theorem before0_3 (c : Dev nD) (t : Fin cfg0.N) (d) : (dats m 0 c).before 3 t d = iblk m c 3 t :=
  before0_3_of m (dats m 0 c) (A_eq m c 3) (after0_3 m c) t d
/-- What the body finds in the buffer of the gate column scales. -/
theorem before0_4 (c : Dev nD) (t : Fin cfg0.N) (d) : (dats m 0 c).before 4 t d = iblk m c 4 t :=
  before0_4_of m (dats m 0 c) (A_eq m c 4) (after0_4 m c) t d
/-- What the body finds in the buffer of the up column scales. -/
theorem before0_5 (c : Dev nD) (t : Fin cfg0.N) (d) : (dats m 0 c).before 5 t d = iblk m c 5 t :=
  before0_5_of m (dats m 0 c) (A_eq m c 5) (after0_5 m c) t d

/-! ## Where the body leaves an output alone -/

/-- At which points the body leaves the buffer of the codes of `h` alone. -/
theorem idle0_6 (t : Fin cfg0.N) : cfg0.idle 6 (cfg0.grid.coords t) = !decide (t.val % 20 = 19) := by
  show (!(k0_cond2 (grid0.coords t) == 1#1)) = _
  by_cases h : t.val % 20 = 19
  · rw [(cond2_iff t).mpr h, decide_eq_true h]; rfl
  · rw [decide_eq_false h]
    have := fun e => h ((cond2_iff t).mp e)
    rw [beq_eq_false_iff_ne.mpr this]
/-- At which points the body leaves the buffer of the scales of `h` alone. -/
theorem idle0_7 (t : Fin cfg0.N) : cfg0.idle 7 (cfg0.grid.coords t) = !decide (t.val % 20 = 19) := by
  show (!(k0_cond2 (grid0.coords t) == 1#1)) = _
  by_cases h : t.val % 20 = 19
  · rw [(cond2_iff t).mpr h, decide_eq_true h]; rfl
  · rw [decide_eq_false h]
    have := fun e => h ((cond2_iff t).mp e)
    rw [beq_eq_false_iff_ne.mpr this]
/-- At which points the body leaves the buffer of the codes of `x` alone. -/
theorem idle0_8 (t : Fin cfg0.N) : cfg0.idle 8 (cfg0.grid.coords t) = !decide (t.val % 20 = 0) := by
  show (!(k0_cond1 (grid0.coords t) == 1#1)) = _
  by_cases h : t.val % 20 = 0
  · rw [(cond1_iff t).mpr h, decide_eq_true h]; rfl
  · rw [decide_eq_false h]
    have := fun e => h ((cond1_iff t).mp e)
    rw [beq_eq_false_iff_ne.mpr this]
/-- At which points the body leaves the buffer of the scales of `x` alone. -/
theorem idle0_9 (t : Fin cfg0.N) : cfg0.idle 9 (cfg0.grid.coords t) = !decide (t.val % 20 = 0) := by
  show (!(k0_cond1 (grid0.coords t) == 1#1)) = _
  by_cases h : t.val % 20 = 0
  · rw [(cond1_iff t).mpr h, decide_eq_true h]; rfl
  · rw [decide_eq_false h]
    have := fun e => h ((cond1_iff t).mp e)
    rw [beq_eq_false_iff_ne.mpr this]

/-- The buffer of the codes of `x` holds nothing of its block only before the first point of a row block. -/
theorem fresh0_8 : ∀ n, n ≤ cfg0.N → cfg0.fresh 8 n = decide (n % 20 = 0) :=
  cfg0.fresh_tab 8 (fun n => decide (n % 20 = 0)) rfl fun t => by
    rw [idle0_8]
    have hf := flush0_8 t
    rcases Bool.eq_false_or_eq_true ((cfg0.win 8).flush t) with e | e
    · have := hf.mp e
      rw [e, Bool.true_or]; exact decide_eq_true (by omega)
    · have : t.val % 20 ≠ 19 := fun h => Bool.eq_false_iff.mp e (hf.mpr h)
      rw [e, Bool.false_or]
      by_cases h : t.val % 20 = 0
      · rw [decide_eq_true h]; exact decide_eq_false (by omega)
      · rw [decide_eq_false h]; exact decide_eq_false (by omega)

/-- Within a row block the buffer still holds what its first point left there. -/
theorem before0_8 (c : Dev nD) (t : Fin cfg0.N) (ht : t.val % 20 ≠ 0) (d) : (dats m 0 c).before 8 t d = (dats m 0 c).after 8 t := by
  have hlt := t.isLt
  have hcarry : ∀ (t : Fin cfg0.N) (_ : t.val ≠ 0), cfg0.idle 8 (cfg0.grid.coords t) = true → cfg0.fresh 8 t.val = false →
      (dats m 0 c).after 8 t = (dats m 0 c).after 8 ⟨t.val - 1, by omega⟩ := by
    intro t h0 hi _
    have hr : t.val % 20 ≠ 0 := by
      intro h
      rw [idle0_8, decide_eq_true h] at hi
      exact Bool.false_ne_true hi
    rw [after0_8, after0_8, iblk_0_row m c t ⟨t.val - 1, by omega⟩ (by show t.val / 20 = (t.val - 1) / 20; omega)]
  rw [(dats m 0 c).before_out_traj 8 rfl (fun _ _ => rfl) hcarry t.val t rfl d, fresh0_8 _ (Nat.le_of_lt t.isLt), decide_eq_false ht, if_neg Bool.false_ne_true,
    after0_8, after0_8, iblk_0_row m c t ⟨t.val - 1, by omega⟩ (by show t.val / 20 = (t.val - 1) / 20; omega)]

/-- The same for the scales of `x`. -/
theorem fresh0_9 : ∀ n, n ≤ cfg0.N → cfg0.fresh 9 n = decide (n % 20 = 0) :=
  cfg0.fresh_tab 9 (fun n => decide (n % 20 = 0)) rfl fun t => by
    rw [idle0_9]
    have hf := flush0_9 t
    rcases Bool.eq_false_or_eq_true ((cfg0.win 9).flush t) with e | e
    · have := hf.mp e
      rw [e, Bool.true_or]; exact decide_eq_true (by omega)
    · have : t.val % 20 ≠ 19 := fun h => Bool.eq_false_iff.mp e (hf.mpr h)
      rw [e, Bool.false_or]
      by_cases h : t.val % 20 = 0
      · rw [decide_eq_true h]; exact decide_eq_false (by omega)
      · rw [decide_eq_false h]; exact decide_eq_false (by omega)

/-- Within a row block the buffer still holds what its first point left there. -/
theorem before0_9 (c : Dev nD) (t : Fin cfg0.N) (ht : t.val % 20 ≠ 0) (d) : (dats m 0 c).before 9 t d = (dats m 0 c).after 9 t := by
  have hlt := t.isLt
  have hcarry : ∀ (t : Fin cfg0.N) (_ : t.val ≠ 0), cfg0.idle 9 (cfg0.grid.coords t) = true → cfg0.fresh 9 t.val = false →
      (dats m 0 c).after 9 t = (dats m 0 c).after 9 ⟨t.val - 1, by omega⟩ := by
    intro t h0 hi _
    have hr : t.val % 20 ≠ 0 := by
      intro h
      rw [idle0_9, decide_eq_true h] at hi
      exact Bool.false_ne_true hi
    rw [after0_9, after0_9, iblk_0_row m c t ⟨t.val - 1, by omega⟩ (by show t.val / 20 = (t.val - 1) / 20; omega)]
  rw [(dats m 0 c).before_out_traj 9 rfl (fun _ _ => rfl) hcarry t.val t rfl d, fresh0_9 _ (Nat.le_of_lt t.isLt), decide_eq_false ht, if_neg Bool.false_ne_true,
    after0_9, after0_9, iblk_0_row m c t ⟨t.val - 1, by omega⟩ (by show t.val / 20 = (t.val - 1) / 20; omega)]

/-- At the point that writes the codes of `h`, the buffer is handed back with them. -/
theorem leaves0_6 (c : Dev nD) (t : Fin cfg0.N) (h : t.val % 20 = 19) :
    (dats m 0 c).leavesExact 6 t = owns (c : Thread nD τ) (st0_6 t) fullShare ((dats m 0 c).after 6 t) := by
  unfold Dat.leavesExact; rw [idle0_6, decide_eq_true h]; rfl
/-- At the other points the buffer of the codes of `h` is handed back as it came. -/
theorem keeps0_6 (c : Dev nD) (t : Fin cfg0.N) (h : t.val % 20 ≠ 19) (h' : t.val % 20 ≠ 19) :
    (dats m 0 c).leavesExact 6 t = iprop(∃ d, owns (c : Thread nD τ) (st0_6 t) fullShare ((dats m 0 c).before 6 t d)) :=
  (dats m 0 c).leavesExact_idle 6 t (by rw [idle0_6, decide_eq_false h]; rfl) (Bool.eq_false_iff.mpr fun e => h' ((flush0_6 t).mp e))

/-- At the point that writes the scales of `h`, the buffer is handed back with them. -/
theorem leaves0_7 (c : Dev nD) (t : Fin cfg0.N) (h : t.val % 20 = 19) :
    (dats m 0 c).leavesExact 7 t = owns (c : Thread nD τ) (st0_7 t) fullShare ((dats m 0 c).after 7 t) := by
  unfold Dat.leavesExact; rw [idle0_7, decide_eq_true h]; rfl
/-- At the other points the buffer of the scales of `h` is handed back as it came. -/
theorem keeps0_7 (c : Dev nD) (t : Fin cfg0.N) (h : t.val % 20 ≠ 19) (h' : t.val % 20 ≠ 19) :
    (dats m 0 c).leavesExact 7 t = iprop(∃ d, owns (c : Thread nD τ) (st0_7 t) fullShare ((dats m 0 c).before 7 t d)) :=
  (dats m 0 c).leavesExact_idle 7 t (by rw [idle0_7, decide_eq_false h]; rfl) (Bool.eq_false_iff.mpr fun e => h' ((flush0_7 t).mp e))

/-- At the point that writes the codes of `x`, the buffer is handed back with them. -/
theorem leaves0_8 (c : Dev nD) (t : Fin cfg0.N) (h : t.val % 20 = 0) :
    (dats m 0 c).leavesExact 8 t = owns (c : Thread nD τ) (st0_8 t) fullShare ((dats m 0 c).after 8 t) := by
  unfold Dat.leavesExact; rw [idle0_8, decide_eq_true h]; rfl
/-- At the other points the buffer of the codes of `x` is handed back as it came. -/
theorem keeps0_8 (c : Dev nD) (t : Fin cfg0.N) (h : t.val % 20 ≠ 0) (h' : t.val % 20 ≠ 19) :
    (dats m 0 c).leavesExact 8 t = iprop(∃ d, owns (c : Thread nD τ) (st0_8 t) fullShare ((dats m 0 c).before 8 t d)) :=
  (dats m 0 c).leavesExact_idle 8 t (by rw [idle0_8, decide_eq_false h]; rfl) (Bool.eq_false_iff.mpr fun e => h' ((flush0_8 t).mp e))
/-- At the last point of a row block the codes of `x` are still there, as written. -/
theorem last0_8 (c : Dev nD) (t : Fin cfg0.N) (h : t.val % 20 = 19) :
    (dats m 0 c).leavesExact 8 t = owns (c : Thread nD τ) (st0_8 t) fullShare ((dats m 0 c).after 8 t) := by
  unfold Dat.leavesExact; rw [idle0_8, decide_eq_false (by omega), (flush0_8 t).mpr h]; rfl

/-- At the point that writes the scales of `x`, the buffer is handed back with them. -/
theorem leaves0_9 (c : Dev nD) (t : Fin cfg0.N) (h : t.val % 20 = 0) :
    (dats m 0 c).leavesExact 9 t = owns (c : Thread nD τ) (st0_9 t) fullShare ((dats m 0 c).after 9 t) := by
  unfold Dat.leavesExact; rw [idle0_9, decide_eq_true h]; rfl
/-- At the other points the buffer of the scales of `x` is handed back as it came. -/
theorem keeps0_9 (c : Dev nD) (t : Fin cfg0.N) (h : t.val % 20 ≠ 0) (h' : t.val % 20 ≠ 19) :
    (dats m 0 c).leavesExact 9 t = iprop(∃ d, owns (c : Thread nD τ) (st0_9 t) fullShare ((dats m 0 c).before 9 t d)) :=
  (dats m 0 c).leavesExact_idle 9 t (by rw [idle0_9, decide_eq_false h]; rfl) (Bool.eq_false_iff.mpr fun e => h' ((flush0_9 t).mp e))
/-- At the last point of a row block the scales of `x` are still there, as written. -/
theorem last0_9 (c : Dev nD) (t : Fin cfg0.N) (h : t.val % 20 = 19) :
    (dats m 0 c).leavesExact 9 t = owns (c : Thread nD τ) (st0_9 t) fullShare ((dats m 0 c).after 9 t) := by
  unfold Dat.leavesExact; rw [idle0_9, decide_eq_false (by omega), (flush0_9 t).mpr h]; rfl

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (dats m 0 c).leavesExact 6 t
    ∗ (dats m 0 c).leavesExact 7 t
    ∗ (dats m 0 c).leavesExact 8 t
    ∗ (dats m 0 c).leavesExact 9 t)

/-- The body at the first point of a row block. -/
theorem sound_bodyA (c : Dev nD) (t : Fin cfg0.N) (h : t.val % 20 = 0) :
    bodyPre m c t ⊢ wp frame (wpE (defs₀ (F := F)) Variants.none c none) Set.univ (bodyAt0 t) (fun _ => bodyPost m c t) := by
  unfold bodyPre bodyPost bodyAt0
  rw [keeps0_6 m c t (by omega) (by omega), keeps0_7 m c t (by omega) (by omega), leaves0_8 m c t h, leaves0_9 m c t h]
  simp only [before0_0, before0_1, before0_2, before0_3, before0_4, before0_5]
  rw [show (dats m 0 c).Φ t.succ = Inv m c (t.val + 1) from rfl, show (dats m 0 c).Φ t.castSucc = Inv m c t.val from rfl,
    show (dats m 0 c).owesAt () t.succ = (dats m 0 c).owesAt () t.castSucc from rfl,
    after0_0, after0_1, after0_2, after0_3, after0_4, after0_5, after0_8, after0_9]
  unfold Inv
  iintro ⟨⟨%xb, %wg, %wu, %h0, %a, %ts, %hk, S0, S1, S2, S3, S4, S5, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (runA c Set.univ _ _ _ _ _ _ _ _ _ _ _ _ _ _ _ _ _ _ _ _ _ _ _ _ _ _ _ _ _ _ _ _ _ ((cond1_iff t).mpr h) (fun e => absurd ((cond2_iff t).mp e) (by omega)) _ _ _ _ _ _ _ _ _ _ _ _ _ _ _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, H7, H8, H9, S0, S1, S2, S3, S4, S5⟩
  isplitl [S0 S1 S2 S3 S4 S5 HP]
  · iexists _, _, _, _, _, _
    isplitr
    swap
    · isplitl [S0]; · iexact S0
      isplitl [S1]; · iexact S1
      isplitl [S2]; · iexact S2
      isplitl [S3]; · iexact S3
      isplitl [S4]; · iexact S4
      isplitl [S5]; · iexact S5
      iexact HP
    ipureintro
    exact known_first m c t h h0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexact H8
  iexact H9

/-- The body at a middle point of a row block. -/
theorem sound_bodyB (c : Dev nD) (t : Fin cfg0.N) (h : t.val % 20 ≠ 0) (h' : t.val % 20 ≠ 19) :
    bodyPre m c t ⊢ wp frame (wpE (defs₀ (F := F)) Variants.none c none) Set.univ (bodyAt0 t) (fun _ => bodyPost m c t) := by
  unfold bodyPre bodyPost bodyAt0
  rw [keeps0_6 m c t h' h', keeps0_7 m c t h' h', keeps0_8 m c t h h', keeps0_9 m c t h h']
  simp only [before0_0, before0_1, before0_2, before0_3, before0_4, before0_5]
  rw [show (dats m 0 c).Φ t.succ = Inv m c (t.val + 1) from rfl, show (dats m 0 c).Φ t.castSucc = Inv m c t.val from rfl,
    show (dats m 0 c).owesAt () t.succ = (dats m 0 c).owesAt () t.castSucc from rfl,
    after0_0, after0_1, after0_2, after0_3, after0_4, after0_5]
  unfold Inv
  iintro ⟨⟨%xb, %wg, %wu, %h0, %a, %ts, %hk, S0, S1, S2, S3, S4, S5, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  obtain ⟨e1, e2, e3, e4⟩ := known_next m c t (by omega) xb h0 a ts hk
  subst e1 e2
  iapply (runB c Set.univ _ _ _ _ _ _ _ _ _ _ _ _ _ _ _ _ _ _ _ _ _ _ _ _ _ _ _ _ _ _ _ _ _ (fun e => h ((cond1_iff t).mp e)) (fun e => h' ((cond2_iff t).mp e)) _ _ _ _ _ _ _ _ _ _ _ _ _ _ _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, H7, H8, H9, S0, S1, S2, S3, S4, S5⟩
  isplitl [S0 S1 S2 S3 S4 S5 HP]
  · iexists _, _, _, _, _, _
    isplitr
    swap
    · isplitl [S0]; · iexact S0
      isplitl [S1]; · iexact S1
      isplitl [S2]; · iexact S2
      isplitl [S3]; · iexact S3
      isplitl [S4]; · iexact S4
      isplitl [S5]; · iexact S5
      iexact HP
    ipureintro
    exact known_of m c t _ _ _ _ ⟨rfl, rfl, e3, e4⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iexists _; iexact H9

/-- The body at the last point of a row block. -/
theorem sound_bodyC (c : Dev nD) (t : Fin cfg0.N) (h : t.val % 20 = 19) :
    bodyPre m c t ⊢ wp frame (wpE (defs₀ (F := F)) Variants.none c none) Set.univ (bodyAt0 t) (fun _ => bodyPost m c t) := by
  unfold bodyPre bodyPost bodyAt0
  rw [leaves0_6 m c t h, leaves0_7 m c t h, last0_8 m c t h, last0_9 m c t h]
  simp only [before0_0, before0_1, before0_2, before0_3, before0_4, before0_5]
  simp only [before0_8 m c t (by omega : t.val % 20 ≠ 0), before0_9 m c t (by omega : t.val % 20 ≠ 0)]
  rw [show (dats m 0 c).Φ t.succ = Inv m c (t.val + 1) from rfl, show (dats m 0 c).Φ t.castSucc = Inv m c t.val from rfl,
    show (dats m 0 c).owesAt () t.succ = (dats m 0 c).owesAt () t.castSucc from rfl,
    after0_0, after0_1, after0_2, after0_3, after0_4, after0_5, after0_6, after0_7, after0_8, after0_9]
  unfold Inv
  iintro ⟨⟨%xb, %wg, %wu, %h0, %a, %ts, %hk, S0, S1, S2, S3, S4, S5, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  obtain ⟨e1, e2, e3, e4⟩ := known_next m c t (by omega) xb h0 a ts hk
  subst e1 e2
  have e5 := hv_full m c t h _ e4
  iapply (runC c Set.univ _ _ _ _ _ _ _ _ _ _ _ _ _ _ _ _ _ _ _ _ _ _ _ _ _ _ _ _ _ _ _ _ _ (fun e => absurd ((cond1_iff t).mp e) (by omega)) ((cond2_iff t).mpr h) _ _ _ _ _ _ _ _ _ _ _ _ _ _ _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, H7, H8, H9, S0, S1, S2, S3, S4, S5⟩
  isplitl [S0 S1 S2 S3 S4 S5 HP]
  · iexists _, _, _, _, _, _
    isplitr
    swap
    · isplitl [S0]; · iexact S0
      isplitl [S1]; · iexact S1
      isplitl [S2]; · iexact S2
      isplitl [S3]; · iexact S3
      isplitl [S4]; · iexact S4
      isplitl [S5]; · iexact S5
      iexact HP
    ipureintro
    exact known_of m c t _ _ _ _ ⟨rfl, rfl, e3, e4⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · rw [← e3, ← e5]; iexact H6
  isplitl [H7]; · rw [← e3]; iexact H7
  isplitl [H8]; · iexact H8
  iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body, at any point, does what the proof data say. -/
theorem sound_body (c : Dev nD) (t : Fin cfg0.N) :
    bodyPre m c t ⊢ wp frame (wpE (defs₀ (F := F)) Variants.none c none) Set.univ (bodyAt0 t) (fun _ => bodyPost m c t) := by
  by_cases h : t.val % 20 = 0
  · exact sound_bodyA m c t h
  · by_cases h' : t.val % 20 = 19
    · exact sound_bodyC m c t h'
    · exact sound_bodyB m c t h h'

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- What is known of the scratch at the start: nothing. -/
theorem inv_first (c : Dev nD) : Pipeline.ΦA (Val := Elt F) spec0 c ⊢ (dats m 0 c).Φ 0 := by
  rw [show (dats m 0 c).Φ 0 = Inv m c 0 from rfl]
  unfold Pipeline.ΦA Inv
  rw [scopedRest0_eq]
  simp only [owns_whole]
  iintro ⟨⟨⟨%f0, S0⟩, ⟨%f1, S1⟩, ⟨%f2, S2⟩, ⟨%f3, S3⟩, ⟨%f4, S4⟩, ⟨%f5, S5⟩⟩, HP⟩
  iexists f0, f1, f2, f3, f4, f5
  isplitr
  · ipureintro; intro h; exact absurd rfl h
  isplitl [S0]; · iexact S0
  isplitl [S1]; · iexact S1
  isplitl [S2]; · iexact S2
  isplitl [S3]; · iexact S3
  isplitl [S4]; · iexact S4
  isplitl [S5]; · iexact S5
  iexact HP

/-- What is known of the scratch is forgotten at the end. -/
theorem inv_last (c : Dev nD) : (dats m 0 c).Φ (Fin.last cfg0.N) ⊢ Pipeline.ΦA (Val := Elt F) spec0 c := by
  rw [show (dats m 0 c).Φ (Fin.last cfg0.N) = Inv m c cfg0.N from rfl]
  unfold Pipeline.ΦA Inv
  rw [scopedRest0_eq]
  simp only [owns_whole]
  iintro ⟨%f0, %f1, %f2, %f3, %f4, %f5, -, S0, S1, S2, S3, S4, S5, HP⟩
  isplitr [HP]
  · isplitl [S0]; · iexists f0; iexact S0
    isplitl [S1]; · iexists f1; iexact S1
    isplitl [S2]; · iexists f2; iexact S2
    isplitl [S3]; · iexists f3; iexact S3
    isplitl [S4]; · iexists f4; iexact S4
    iexists f5; iexact S5
  iexact HP

set_option backward.isDefEq.respectTransparency.types false in
set_option maxHeartbeats 800000 in
/-- The run of the whole program, and every semaphore counter at zero at its end. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (body_obligation m c).loose) (hq := fun c w _ => rfl)
    (howed := fun _ _ => rfl) (V₀ := V0 m) (opss := [hostOps1]) (hsub := sfx_sub) (hfresh := sfx_fresh) (hkeep := sfx_keeps)
    (hmain := hmain m Variants.none) (hA := A_eq m) (hin := inv_first m) (hout := inv_last m)

/-- The run, without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- Every execution ends with the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.Words.lean ====
module

public import proofs.«01_k».proof.Proof.Run
public import proofs.«01_k».proof.Proof.Gen.Kernel.Frame

@[expose] public section

/-! # The kernel as compiled, and as read exactly

No operation of the kernel is rewritten for the exact reading, so the two printed programs are one: the frame proved of
the second is the frame of the first. -/

noncomputable section

namespace Cert.Kernel.Hand

open Idealize.ShloMosaic Idealize.ShloMosaic.TcCoe Idealize.SL.Sem

variable {F : FTy → Type} [FloatOps F]

/-- The two bodies are one. -/
theorem body_eq : @Cert.Kernel.cc0_w4a8_gate_up F _ Cert.Kernel.Gen.facts = @Cert.KernelIdeal.cc0_w4a8_gate_up F _ Cert.KernelIdeal.Gen.facts := rfl

/-- The two body tables are one. -/
theorem defs₀_eq : Cert.Kernel.defs₀ (F := F) = Cert.KernelIdeal.defs₀ (F := F) := by
  unfold Cert.Kernel.defs₀ Cert.KernelIdeal.defs₀
  refine congrArg Defs.onTc ?_
  funext l x
  match l, x with
  | 0, (t, s) =>
    rw [body_eq]
    rfl

variable (m : (ℓ : Loc nD τ sig) → Buf (Elt F) ℓ) (ρ : Dev nD → PrngReg)

/-- Every execution ends with the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  have h := Cert.KernelIdeal.Hand.frame (F := F) m ρ
  unfold Cert.KernelIdeal.defs at h
  rw [← defs₀_eq] at h
  exact h

end Cert.Kernel.Hand

end
-- ==== Proof.Scale.lean ====
module

public import Idealize.ShloMosaic.PureOps.Ideal
public import Idealize.ShloMosaic.PureOps.Ideal.Laws
public import Mathlib.Tactic.IntervalCases

@[expose] public section

set_option maxRecDepth 16384

/-! # The power-of-two scale

A row's scale is `2^e`, where `e` is the exponent `frexp` gives of `v = amax / 448` (so `2^(e-1) ≤ v < 2^e`), and `1` where
`v` is below the least normal number or at least `2^120`. The kernel finds the exponent field of `v` bit by bit and writes
the scale and its reciprocal as words; the reference takes the least power of two above `v` and divides by it. Here the
two are shown to be the same extended reals, for every `v`. -/

noncomputable section

namespace Cert.Scale

open Idealize.ShloMosaic

/-- `2^z` as an extended real. -/
def p2 (z : ℤ) : EReal := (((2 : ℝ) ^ z : ℝ) : EReal)

/-- Powers of two are ordered as their exponents, -/
theorem p2_le {a b : ℤ} : p2 a ≤ p2 b ↔ a ≤ b := by
  unfold p2; rw [EReal.coe_le_coe_iff]; exact zpow_le_zpow_iff_right₀ (by norm_num)

/-- strictly too. -/
theorem p2_lt {a b : ℤ} : p2 a < p2 b ↔ a < b := by
  unfold p2; rw [EReal.coe_lt_coe_iff]; exact zpow_lt_zpow_iff_right₀ (by norm_num)

/-- The fields of the word of a power of two. -/
theorem word_fields : ∀ n : Fin 256, ((BitVec.ofNat 32 n.val <<< (23#32)).extractLsb' 31 1 == 1#1) = false
    ∧ ((BitVec.ofNat 32 n.val <<< (23#32)).extractLsb' 23 8).toNat = n.val
    ∧ ((BitVec.ofNat 32 n.val <<< (23#32)).extractLsb' 0 23).toNat = 0 := by decide +kernel

/-- A word of sign 0, exponent field `n` and fraction 0, read as a number. -/
theorem ieee_word (b : BitVec 32) (n : ℕ) (ha : (b.extractLsb' 31 1 == 1#1) = false) (hb : (b.extractLsb' 23 8).toNat = n)
    (hc : (b.extractLsb' 0 23).toNat = 0) (h1 : 1 ≤ n) (h2 : n ≤ 254) : Ideal.ieee 8 23 b = p2 (n - 127) := by
  unfold Ideal.ieee
  simp only [Nat.reduceAdd, ha, hb, hc]
  rw [if_neg (by omega), if_neg (by omega), p2]
  congr 1
  norm_num
  rw [show ((8388608 : ℝ)) = (2 : ℝ) ^ (23 : ℤ) by norm_num, ← zpow_add₀ (by norm_num)]
  congr 1; ring

/-- A word of sign 0, exponent field 255 and fraction 0 is infinite. -/
theorem ieee_word_255 (b : BitVec 32) (ha : (b.extractLsb' 31 1 == 1#1) = false) (hb : (b.extractLsb' 23 8).toNat = 255)
    (hc : (b.extractLsb' 0 23).toNat = 0) : Ideal.ieee 8 23 b = ⊤ := by
  unfold Ideal.ieee
  simp only [Nat.reduceAdd, ha, hb, hc]
  norm_num

/-- The word with exponent field `n` and no fraction is `2^(n-127)`. -/
theorem ofBits_word (n : ℕ) (h1 : 1 ≤ n) (h2 : n ≤ 254) :
    Ideal.ofBits .f32 (BitVec.ofNat 32 n <<< (23#32)) = p2 (n - 127) :=
  ieee_word _ n (word_fields ⟨n, by omega⟩).1 (word_fields ⟨n, by omega⟩).2.1 (word_fields ⟨n, by omega⟩).2.2 h1 h2

/-- The word with exponent field 255 and no fraction is infinite. -/
theorem ofBits_word_255 (n : ℕ) (h : n = 255) : Ideal.ofBits .f32 (BitVec.ofNat 32 n <<< (23#32)) = ⊤ :=
  ieee_word_255 _ (word_fields ⟨n, by omega⟩).1 ((word_fields ⟨n, by omega⟩).2.1.trans h) (word_fields ⟨n, by omega⟩).2.2

/-- The word of infinity. -/
theorem ofBits_top : Ideal.ofBits .f32 0x7F800000#32 = ⊤ := ofBits_word_255 255 rfl
/-- The word of one. -/
theorem ofBits_one : Ideal.ofBits .f32 0x3F800000#32 = 1 := by
  refine (ofBits_word 127 (by omega) (by omega)).trans ?_
  simp [p2]
/-- The word of the 120th power of two. -/
theorem ofBits_2_120 : Ideal.ofBits .f32 0x7B800000#32 = p2 120 :=
  (ofBits_word 247 (by omega) (by omega)).trans (by norm_num)
/-- The word of the least normal value. -/
theorem ofBits_2_m126 : Ideal.ofBits .f32 0x00800000#32 = p2 (-126) :=
  (ofBits_word 1 (by omega) (by omega)).trans (by norm_num)

/-- One step of the kernel's search: the field raised by `b` where `v` is at least the power that would give. -/
def step (v : EReal) (b f : BitVec 32) : BitVec 32 :=
  Scalar.select (Ideal.cmp .oge v (Ideal.ofBits .f32 (IntOp.shli .vector (IntOp.addi f b) 23#32))) (IntOp.addi f b) f

/-- The kernel's exponent field of `v`: eight steps. -/
def field (v : EReal) : BitVec 32 :=
  step v 1#32 (step v 2#32 (step v 4#32 (step v 8#32 (step v 16#32 (step v 32#32 (step v 64#32 (step v 128#32 0#32)))))))

/-- The field, 255 where `v` is at least `2^120`. -/
def fieldC (v : EReal) : BitVec 32 := Scalar.select (Ideal.cmp .oge v (Ideal.ofBits .f32 0x7B800000#32)) 255#32 (field v)

/-- The kernel's exponent of the scale. -/
def expo (v : EReal) : BitVec 32 :=
  Scalar.select (IntOp.ori (IntOp.cmpi .eq (fieldC v) 0#32) (IntOp.cmpi .eq (fieldC v) 255#32)) 0#32 (IntOp.subi (fieldC v) 126#32)

/-- The kernel's scale. -/
def scale (v : EReal) : EReal := Ideal.ofBits .f32 (IntOp.shli .vector (IntOp.addi (expo v) 127#32) 23#32)

/-- The kernel's reciprocal of the scale. -/
def inv (v : EReal) : EReal := Ideal.ofBits .f32 (IntOp.shli .vector (IntOp.subi 127#32 (expo v)) 23#32)

/-- The reference's candidate scale `2^(k-125)`. -/
def cand (k : ℕ) : EReal := Ideal.exp2 ((((IntOp.subi (BitVec.ofNat 32 k) 125#32).toInt : ℝ) : EReal))

/-- The reference's least candidate above `v`. -/
def above (v : EReal) : EReal :=
  (Finset.univ : Finset (Fin 246)).fold min (Ideal.ofBits .f32 0x7F800000#32) fun k =>
    Scalar.select (Ideal.cmp .olt v (cand k.val)) (cand k.val) (Ideal.ofBits .f32 0x7F800000#32)

/-- The reference's scale. -/
def refScale (v : EReal) : EReal :=
  Scalar.select (IntOp.ori (Ideal.cmp .olt v (Ideal.ofBits .f32 0x00800000#32)) (Ideal.cmp .oge v (Ideal.ofBits .f32 0x7B800000#32)))
    (Ideal.ofBits .f32 0x3F800000#32) (above v)

/-- A choice by a comparison is an `if`. -/
theorem select_ofBool {α : Type} (b : Bool) (x y : α) : Scalar.select (BitVec.ofBool b) x y = if b = true then x else y := by
  cases b <;> rfl

/-- A shift by 23 stays within the word. -/
theorem shli_23 (x : BitVec 32) : IntOp.shli .vector x 23#32 = x <<< (23#32) := by
  unfold IntOp.shli; rw [if_pos (by decide)]

/-- A step from a field `n`, where the powers at most `v` are those up to field `k`. -/
theorem step_ofNat (v : EReal) (k n b : ℕ) (hb : 1 ≤ n + b) (hn : n + b ≤ 255)
    (hk : ∀ j : ℕ, 1 ≤ j → j ≤ 255 → (Ideal.ofBits .f32 (BitVec.ofNat 32 j <<< (23#32)) ≤ v ↔ j ≤ k)) :
    step v (BitVec.ofNat 32 b) (BitVec.ofNat 32 n) = BitVec.ofNat 32 (if n + b ≤ k then n + b else n) := by
  unfold step
  have e : IntOp.addi (BitVec.ofNat 32 n) (BitVec.ofNat 32 b) = BitVec.ofNat 32 (n + b) := by
    unfold IntOp.addi; exact (BitVec.ofNat_add n b).symm
  rw [shli_23, e]
  unfold Ideal.cmp
  rw [select_ofBool]
  simp only [decide_eq_true_eq, hk _ hb hn]
  split <;> rfl

/-- The eight steps find the greatest field whose power is at most `v`. -/
theorem field_eq (v : EReal) (k : ℕ) (hk255 : k ≤ 255)
    (hk : ∀ j : ℕ, 1 ≤ j → j ≤ 255 → (Ideal.ofBits .f32 (BitVec.ofNat 32 j <<< (23#32)) ≤ v ↔ j ≤ k)) :
    field v = BitVec.ofNat 32 k := by
  have key : ∀ (b n : ℕ) (f : BitVec 32), 1 ≤ b → f = BitVec.ofNat 32 n → n ≤ k → k < n + 2 * b → n + 2 * b ≤ 256 →
      ∃ n', step v (BitVec.ofNat 32 b) f = BitVec.ofNat 32 n' ∧ n' ≤ k ∧ k < n' + b ∧ n' + b ≤ 256 := by
    intro b n f hb hf h1 h2 h3
    refine ⟨if n + b ≤ k then n + b else n, ?_, ?_, ?_, ?_⟩
    · rw [hf]; exact step_ofNat v k n b (by omega) (by omega) hk
    all_goals split <;> omega
  obtain ⟨n1, e1, a1, b1, c1⟩ := key 128 0 0#32 (by omega) rfl (by omega) (by omega) (by omega)
  obtain ⟨n2, e2, a2, b2, c2⟩ := key 64 n1 _ (by omega) e1 a1 b1 c1
  obtain ⟨n3, e3, a3, b3, c3⟩ := key 32 n2 _ (by omega) e2 a2 b2 c2
  obtain ⟨n4, e4, a4, b4, c4⟩ := key 16 n3 _ (by omega) e3 a3 b3 c3
  obtain ⟨n5, e5, a5, b5, c5⟩ := key 8 n4 _ (by omega) e4 a4 b4 c4
  obtain ⟨n6, e6, a6, b6, c6⟩ := key 4 n5 _ (by omega) e5 a5 b5 c5
  obtain ⟨n7, e7, a7, b7, c7⟩ := key 2 n6 _ (by omega) e6 a6 b6 c6
  obtain ⟨n8, e8, a8, b8, c8⟩ := key 1 n7 _ (by omega) e7 a7 b7 c7
  have : n8 = k := by omega
  subst this
  exact e8

/-- Every value lies below the normal numbers, at or above `2^120`, or in one of the binades between. -/
theorem cases (v : EReal) : v < p2 (-126) ∨ p2 120 ≤ v
    ∨ ∃ k : ℕ, 1 ≤ k ∧ k ≤ 246 ∧ p2 (k - 127) ≤ v ∧ v < p2 (k - 126) := by
  by_cases h1 : v < p2 (-126)
  · exact .inl h1
  by_cases h2 : p2 120 ≤ v
  · exact .inr (.inl h2)
  right; right
  rw [not_lt] at h1; rw [not_le] at h2
  classical
  let P : ℕ → Prop := fun k => p2 ((k : ℤ) - 127) ≤ v
  have hP1 : P 1 := h1
  have hs : P (Nat.findGreatest P 246) := Nat.findGreatest_spec (P := P) (by omega) hP1
  have hle : Nat.findGreatest P 246 ≤ 246 := Nat.findGreatest_le 246
  have hge : 1 ≤ Nat.findGreatest P 246 := Nat.le_findGreatest (by omega) hP1
  refine ⟨Nat.findGreatest P 246, hge, hle, hs, ?_⟩
  by_cases he : Nat.findGreatest P 246 = 246
  · rw [he]; exact h2
  · have hn : ¬ P (Nat.findGreatest P 246 + 1) := Nat.findGreatest_is_greatest (Nat.lt_succ_self _) (by omega)
    rw [show ((Nat.findGreatest P 246 : ℤ) - 126) = ((Nat.findGreatest P 246 + 1 : ℕ) : ℤ) - 127 by push_cast; ring]
    exact not_le.mp hn

/-- The exponent in its three cases. -/
theorem expo_low (v : EReal) (h : v < p2 (-126)) : expo v = 0#32 := by
  have hf : field v = BitVec.ofNat 32 0 := field_eq v 0 (by omega) fun j h1 h2 => by
    refine iff_of_false (fun h' => ?_) (by omega)
    by_cases hj : j = 255
    · rw [ofBits_word_255 j hj, top_le_iff] at h'; subst h'; exact absurd h (by unfold p2; simp)
    · rw [ofBits_word j h1 (by omega)] at h'
      have := p2_lt.mp (lt_of_le_of_lt h' h); omega
  have hc : fieldC v = 0#32 := by
    unfold fieldC Ideal.cmp
    rw [select_ofBool, ofBits_2_120, hf]
    have : ¬ p2 120 ≤ v := fun h' => by have := p2_lt.mp (lt_of_le_of_lt h' h); omega
    simp [this]
  unfold expo; rw [hc]; rfl

/-- Of a value of 2^120 or above the exponent is taken as zero. -/
theorem expo_high (v : EReal) (h : p2 120 ≤ v) : expo v = 0#32 := by
  have hc : fieldC v = 255#32 := by
    unfold fieldC Ideal.cmp
    rw [select_ofBool, ofBits_2_120]
    simp [h]
  unfold expo; rw [hc]; rfl

/-- For a field from 1 to 246 the choices give the field less 126, and the words of the scale and of its inverse have the fields that follow from it. -/
theorem sub126 : ∀ k : Fin 247, 1 ≤ k.val →
    Scalar.select (IntOp.ori (IntOp.cmpi .eq (BitVec.ofNat 32 k.val) 0#32) (IntOp.cmpi .eq (BitVec.ofNat 32 k.val) 255#32)) 0#32
      (IntOp.subi (BitVec.ofNat 32 k.val) 126#32) = BitVec.ofNat 32 k.val - 126#32
    ∧ IntOp.addi (BitVec.ofNat 32 k.val - 126#32) 127#32 = BitVec.ofNat 32 (k.val + 1)
    ∧ IntOp.subi 127#32 (BitVec.ofNat 32 k.val - 126#32) = BitVec.ofNat 32 (253 - k.val) := by decide +kernel

/-- Of a value within a binade the exponent is that of the binade's upper end. -/
theorem expo_mid (v : EReal) (k : ℕ) (h1 : 1 ≤ k) (h2 : k ≤ 246) (ha : p2 (k - 127) ≤ v) (hb : v < p2 (k - 126)) :
    expo v = BitVec.ofNat 32 k - 126#32 := by
  have hv : ¬ p2 120 ≤ v := fun h' => by have := p2_lt.mp (lt_of_le_of_lt h' hb); omega
  have hf : field v = BitVec.ofNat 32 k := field_eq v k (by omega) fun j h1 h2 => by
    by_cases hj : j = 255
    · rw [ofBits_word_255 j hj, top_le_iff]
      exact iff_of_false (fun h' => by subst h'; exact hv le_top) (by omega)
    · rw [ofBits_word j h1 (by omega)]
      constructor
      · intro h'; have := p2_lt.mp (lt_of_le_of_lt h' hb); omega
      · intro h'; exact le_trans (p2_le.mpr (by omega)) ha
  have hc : fieldC v = BitVec.ofNat 32 k := by
    unfold fieldC Ideal.cmp
    rw [select_ofBool, ofBits_2_120, hf]
    simp [hv]
  unfold expo; rw [hc]
  exact (sub126 ⟨k, by omega⟩ h1).1

/-- The reference's candidates are the powers of two from 2^-125 on. -/
theorem cand_eq (k : Fin 246) : cand k.val = p2 ((k.val : ℤ) - 125) := by
  have : ∀ k : Fin 246, (IntOp.subi (BitVec.ofNat 32 k.val) 125#32).toInt = (k.val : ℤ) - 125 := by decide +kernel
  unfold cand
  rw [this k, Ideal.exp2_coe, p2]
  congr 1
  exact Real.rpow_intCast 2 _

/-- In the binade of field `k` the least candidate above `v` is `2^(k-126)`. -/
theorem above_eq (v : EReal) (k : ℕ) (h1 : 1 ≤ k) (h2 : k ≤ 246) (ha : p2 (k - 127) ≤ v) (hb : v < p2 (k - 126)) :
    above v = p2 (k - 126) := by
  unfold above
  rw [ofBits_top]
  have hs : ∀ i : Fin 246, Scalar.select (Ideal.cmp .olt v (cand i.val)) (cand i.val) (⊤ : EReal)
      = if v < p2 ((i.val : ℤ) - 125) then p2 ((i.val : ℤ) - 125) else ⊤ := fun i => by
    unfold Ideal.cmp
    rw [select_ofBool, cand_eq]; simp
  simp only [hs]
  apply le_antisymm
  · rw [Finset.fold_min_le]
    right
    refine ⟨⟨k - 1, by omega⟩, Finset.mem_univ _, ?_⟩
    have e : (((⟨k - 1, by omega⟩ : Fin 246).val : ℤ) - 125) = (k : ℤ) - 126 := by simp only []; omega
    rw [e, if_pos hb]
  · rw [Finset.le_fold_min]
    refine ⟨le_top, fun i _ => ?_⟩
    split
    · rename_i h
      have := p2_lt.mp (lt_of_le_of_lt ha h)
      exact p2_le.mpr (by omega)
    · exact le_top

/-- The reference's scale of a value below the least normal one is 1. -/
theorem refScale_low (v : EReal) (h : v < p2 (-126)) : refScale v = 1 := by
  unfold refScale Ideal.cmp
  rw [ofBits_2_m126, ofBits_one]
  simp only [h, decide_true]
  cases decide (Ideal.ofBits .f32 0x7B800000#32 ≤ v) <;> rfl

/-- The reference's scale of a value of 2^120 or above is 1. -/
theorem refScale_high (v : EReal) (h : p2 120 ≤ v) : refScale v = 1 := by
  unfold refScale Ideal.cmp
  rw [ofBits_2_120, ofBits_one]
  simp only [h, decide_true]
  cases decide (v < Ideal.ofBits .f32 0x00800000#32) <;> rfl

/-- The reference's scale of a value within a binade is the binade's upper end. -/
theorem refScale_mid (v : EReal) (k : ℕ) (h1 : 1 ≤ k) (h2 : k ≤ 246) (ha : p2 (k - 127) ≤ v) (hb : v < p2 (k - 126)) :
    refScale v = p2 (k - 126) := by
  have hv : ¬ p2 120 ≤ v := fun h' => by have := p2_lt.mp (lt_of_le_of_lt h' hb); omega
  have hv' : ¬ v < p2 (-126) := fun h' => by have := p2_lt.mp (lt_of_le_of_lt ha h'); omega
  unfold refScale Ideal.cmp
  rw [ofBits_2_120, ofBits_2_m126, above_eq v k h1 h2 ha hb]
  simp only [hv, hv', decide_false]
  rfl

/-- With exponent zero the scale is 1, -/
theorem scale_zero (v : EReal) (h : expo v = 0#32) : scale v = 1 := by
  unfold scale; rw [h, shli_23]
  exact ofBits_one

/-- and so is its inverse. -/
theorem inv_zero (v : EReal) (h : expo v = 0#32) : inv v = 1 := by
  unfold inv; rw [h, shli_23]
  exact ofBits_one

/-- One over one is one. -/
theorem div_one_one : Ideal.div 1 1 = 1 := by
  have := Ideal.div_coe (y := 1) one_ne_zero 1
  simpa using this

/-- The reference's scale is the kernel's, whatever the value. -/
theorem refScale_eq (v : EReal) : refScale v = scale v := by
  rcases cases v with h | h | ⟨k, h1, h2, ha, hb⟩
  · rw [refScale_low v h, scale_zero v (expo_low v h)]
  · rw [refScale_high v h, scale_zero v (expo_high v h)]
  · rw [refScale_mid v k h1 h2 ha hb]
    unfold scale
    rw [expo_mid v k h1 h2 ha hb, (sub126 ⟨k, by omega⟩ h1).2.1, shli_23, ofBits_word _ (by omega) (by omega)]
    congr 1; push_cast; ring

/-- The reciprocal of the reference's scale is the kernel's reciprocal, whatever the value. -/
theorem div_refScale (v : EReal) : Ideal.div 1 (refScale v) = inv v := by
  rcases cases v with h | h | ⟨k, h1, h2, ha, hb⟩
  · rw [refScale_low v h, inv_zero v (expo_low v h), div_one_one]
  · rw [refScale_high v h, inv_zero v (expo_high v h), div_one_one]
  · rw [refScale_mid v k h1 h2 ha hb]
    unfold inv
    rw [expo_mid v k h1 h2 ha hb, (sub126 ⟨k, by omega⟩ h1).2.2, shli_23, ofBits_word _ (by simp only []; omega) (by simp only []; omega)]
    unfold p2
    rw [Ideal.div_coe (by positivity), one_mul, one_div, ← zpow_neg]
    congr 2; simp only []; omega

end Cert.Scale

end
-- ==== Proof.Nibble.lean ====
module

public import proofs.«01_k».proof.Proof.Gen.KernelIdeal.Skeleton
public import Idealize.ShloMosaic.PureOps.Ideal.Laws
public import Idealize.ShloMosaic.Lib.BitcastFour
public import Idealize.ShloMosaic.Lib.Pointwise.Index

@[expose] public section

set_option maxRecDepth 16384

/-! # The packed weights

The kernel reads four rows of packed bytes as one word, moves the wanted four-bit fields to the top of each byte with one
shift and one mask, and reads the bytes back: each is then sixteen times the signed field. -/

noncomputable section

namespace Cert.KernelIdeal.Nibble

open Idealize.ShloMosaic Cert.KernelIdeal

/-- The mask's bits. -/
theorem mask_bit : ∀ p : Fin 32, (4042322160#32).getLsbD p.val = decide (4 ≤ p.val % 8) := by decide +kernel

/-- A bit of a byte read back from words: row `r` is byte `r % 4` of word row `r / 4`. -/
theorem back_bit (X : IVec S32x256 32) (h : S32x256.Bitcasts 32 S128x256 8) (r : Fin 128) (c : Fin 256) (q : ℕ) (hq : q < 8) :
    (bitcast S128x256 8 X h (ix2 r c)).getLsbD q
      = (X (ix2 (n0 := 32) ⟨r.val / 4, by omega⟩ c)).getLsbD (8 * (r.val % 4) + q) := by
  rw [bitcast_getLsbD X h _ q hq (by decide)]
  have hr : S128x256.row (ix2 r c) = r.val := rfl
  have e2 : (S128x256.row (ix2 r c) * 8 + q) % 32 = 8 * (r.val % 4) + q := by rw [hr]; omega
  have e1 : (S128x256.row (ix2 r c) * 8 + q) / 32 = r.val / 4 := by rw [hr]; omega
  rw [e2]
  congr 2
  funext a
  match a with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

/-- A bit of a word made of four bytes. -/
theorem word_bit (v : IVec S128x256 8) (h : S128x256.Bitcasts 8 S32x256 32) (r : Fin 128) (c : Fin 256) (q : ℕ) (hq : q < 8) :
    (bitcast S32x256 32 v h (ix2 (n0 := 32) ⟨r.val / 4, by omega⟩ c)).getLsbD (8 * (r.val % 4) + q) = (v (ix2 r c)).getLsbD q := by
  have := bitcast_8_32_getLsbD_ix2 v h ⟨r.val / 4, by omega⟩ c (8 * (r.val % 4) + q) (by omega) r (by simp only []; omega)
  refine (show _ = _ from this).trans ?_
  rw [show (8 * (r.val % 4) + q) % 8 = q by omega]
  rfl

/-- The byte left by the mask alone: the upper field in place. -/
theorem up_byte (v : IVec S128x256 8) (h : S128x256.Bitcasts 8 S32x256 32) (h' : S32x256.Bitcasts 32 S128x256 8) (r : Fin 128) (c : Fin 256) :
    bitcast S128x256 8 (andi (bitcast S32x256 32 v h) (broadcast S32x256 4042322160#32)) h' (ix2 r c) = v (ix2 r c) &&& 0xF0#8 := by
  apply BitVec.eq_of_getLsbD_eq
  intro q hq
  rw [back_bit _ _ _ _ q hq]
  show (bitcast S32x256 32 v h _ &&& 4042322160#32).getLsbD _ = _
  rw [BitVec.getLsbD_and, word_bit v h r c q hq, mask_bit ⟨8 * (r.val % 4) + q, by omega⟩, BitVec.getLsbD_and]
  congr 1
  have : ∀ q : Fin 8, (0xF0#8).getLsbD q.val = decide (4 ≤ q.val) := by decide
  rw [this ⟨q, hq⟩]
  simp only [show (8 * (r.val % 4) + q) % 8 = q by omega]

/-- The byte left by the shift and the mask: the lower field moved to the top. -/
theorem gate_byte (v : IVec S128x256 8) (h : S128x256.Bitcasts 8 S32x256 32) (h' : S32x256.Bitcasts 32 S128x256 8) (r : Fin 128) (c : Fin 256) :
    bitcast S128x256 8 (andi (shli (bitcast S32x256 32 v h) (broadcast S32x256 4#32)) (broadcast S32x256 4042322160#32)) h' (ix2 r c)
      = v (ix2 r c) <<< 4 := by
  apply BitVec.eq_of_getLsbD_eq
  intro q hq
  rw [back_bit _ _ _ _ q hq]
  have hs : shli (bitcast S32x256 32 v h) (broadcast S32x256 4#32) (ix2 (n0 := 32) ⟨r.val / 4, by omega⟩ c)
      = bitcast S32x256 32 v h (ix2 (n0 := 32) ⟨r.val / 4, by omega⟩ c) <<< (4 : ℕ) := by
    show IntOp.shli .vector _ 4#32 = _
    unfold IntOp.shli; rw [if_pos (by decide)]; rfl
  show (shli (bitcast S32x256 32 v h) (broadcast S32x256 4#32) _ &&& 4042322160#32).getLsbD _ = _
  rw [hs, BitVec.getLsbD_and, mask_bit ⟨8 * (r.val % 4) + q, by omega⟩, BitVec.getLsbD_shiftLeft, BitVec.getLsbD_shiftLeft]
  simp only [show (8 * (r.val % 4) + q) % 8 = q by omega]
  by_cases h4 : 4 ≤ q
  · have := word_bit v h r c (q - 4) (by omega)
    rw [show 8 * (r.val % 4) + q - 4 = 8 * (r.val % 4) + (q - 4) by omega, this]
    simp [h4, hq, show 8 * (r.val % 4) + q < 32 by omega, show ¬ 8 * (r.val % 4) + q < 4 by omega, show ¬ q < 4 by omega]
  · simp [h4, show q < 4 by omega]

/-- The signed value of a field in the reference: sixteen taken off where it is eight or more. -/
def signed (f : BitVec 32) : BitVec 32 := Scalar.select (IntOp.cmpi .sge f 8#32) (IntOp.subi f 16#32) f

/-- The lower field as the reference reads it. -/
def lo (b : BitVec 8) : BitVec 32 := signed (IntOp.andi (b.setWidth 32) 15#32)
/-- The upper field as the reference reads it. -/
def hi (b : BitVec 8) : BitVec 32 := signed (IntOp.shrsi .vector (b.setWidth 32) 4#32)

/-- The kernel's bytes are sixteen times the reference's signed fields. -/
theorem bytes : ∀ b : Fin 256, (BitVec.ofNat 8 b.val <<< 4).toInt = 16 * (lo (BitVec.ofNat 8 b.val)).toInt
    ∧ (BitVec.ofNat 8 b.val &&& 0xF0#8).toInt = 16 * (hi (BitVec.ofNat 8 b.val)).toInt := by decide +kernel

/-- The low field moved to the top is sixteen times its signed value. -/
theorem lo_toInt (b : BitVec 8) : (b <<< 4).toInt = 16 * (lo b).toInt := by
  have := (bytes ⟨b.toNat, b.isLt⟩).1
  simpa using this

/-- The high field left in place is sixteen times its signed value. -/
theorem hi_toInt (b : BitVec 8) : (b &&& 0xF0#8).toInt = 16 * (hi b).toInt := by
  have := (bytes ⟨b.toNat, b.isLt⟩).2
  simpa using this

end Cert.KernelIdeal.Nibble
-- ==== Proof.Spec.lean ====
module

public import proofs.«01_k».proof.Proof.Scale
public import proofs.«01_k».proof.Proof.Nibble

@[expose] public section

set_option maxRecDepth 16384

/-! # The values, cell by cell

What one cell of each result is over the extended reals, in terms of the arguments' cells: the common ground on which the
kernel and the reference meet. -/

noncomputable section

namespace Cert.Spec

open Idealize.ShloMosaic Cert.Scale Cert.KernelIdeal.Nibble

/-- The largest absolute value among finitely many. -/
def rowMax {n : ℕ} (f : Fin n → EReal) : EReal := Finset.univ.fold max (Ideal.ofBits .f32 0xFF800000#32) fun k => max (f k) (-(f k))

/-- The value whose binade decides the scale: the largest absolute value over 448. -/
def ratio (a : EReal) : EReal := a * Ideal.ofBits .f32 0x3B124925#32

/-- A value cut to the range of the codes. -/
def clip (z : EReal) : EReal := min (Ideal.ofBits .f32 0x43E00000#32) (max (Ideal.ofBits .f32 0xC3E00000#32) z)

/-- The code of one value of a row: the value over the row's scale, cut to range. -/
def code {n : ℕ} (f : Fin n → EReal) (k : Fin n) : EReal := clip (f k * inv (ratio (rowMax f)))

/-- The scale of a row. -/
def rowScale {n : ℕ} (f : Fin n → EReal) : EReal := scale (ratio (rowMax f))

/-- The product of a row of codes with a column of weights: each weight is a signed field times its group's scale. -/
def dot (q : Fin 8192 → EReal) (f : Fin 8192 → BitVec 32) (g : Fin 64 → EReal) : EReal :=
  ∑ k : Fin 8192, q k * ((((f k).toInt : ℝ) : EReal) * g ⟨k.val / 128, by have := k.isLt; omega⟩)

/-- The gated unit. -/
def swiglu (g u : EReal) : EReal := g * Ideal.logistic g * u

/-- One cell of `h`, from a row of `x`, a column of packed weights and the scales that go with it. -/
def hcell (x : Fin 8192 → EReal) (w : Fin 8192 → BitVec 8) (gg gu : Fin 64 → EReal) (sg su : EReal) : EReal :=
  swiglu (dot (code x) (fun k => lo (w k)) gg * rowScale x * sg) (dot (code x) (fun k => hi (w k)) gu * rowScale x * su)

/-! ## The results as functions of the whole arguments -/

section Whole

variable (X : (⟨2, ![6144, 8192]⟩ : Shape).Idx → EReal) (W : (⟨2, ![8192, 5120]⟩ : Shape).Idx → BitVec 8)
  (G : (⟨2, ![64, 10240]⟩ : Shape).Idx → EReal) (S : (⟨2, ![1, 10240]⟩ : Shape).Idx → EReal)

/-- One row of `h`: the gate's scales are the first half of the columns, the up projection's the second. -/
def hrow (R : Fin 6144) (q : Fin 5120) : EReal :=
  hcell (fun k => X (ix2 R k)) (fun k => W (ix2 k q)) (fun i => G (ix2 i ⟨q.val, by have := q.isLt; omega⟩))
    (fun i => G (ix2 i ⟨5120 + q.val, by have := q.isLt; omega⟩)) (S (ix2 0 ⟨q.val, by have := q.isLt; omega⟩))
    (S (ix2 0 ⟨5120 + q.val, by have := q.isLt; omega⟩))

/-- The codes of `h`. -/
def resHC : (⟨2, ![6144, 5120]⟩ : Shape).Idx → EReal := fun i => code (hrow X W G S (i 0)) (i 1)
/-- The scales of `h`. -/
def resHS : (⟨2, ![6144, 1]⟩ : Shape).Idx → EReal := fun i => rowScale (hrow X W G S (i 0))
/-- The codes of `x`. -/
def resXC : (⟨2, ![6144, 8192]⟩ : Shape).Idx → EReal := fun i => code (fun k => X (ix2 (i 0) k)) (i 1)
/-- The scales of `x`. -/
def resXS : (⟨2, ![6144, 1]⟩ : Shape).Idx → EReal := fun i => rowScale fun k => X (ix2 (i 0) k)

end Whole

/-! ## The results as they are returned -/

section Returned

variable (A : (⟨3, ![12, 512, 8192]⟩ : Shape).Idx → EReal) (W : (⟨2, ![8192, 5120]⟩ : Shape).Idx → BitVec 8) (G : (⟨2, ![64, 10240]⟩ : Shape).Idx → EReal)
  (s : (⟨1, ![10240]⟩ : Shape).Idx → EReal)

/-- `x` as one array of rows. -/
def rowsOf : (⟨2, ![6144, 8192]⟩ : Shape).Idx → EReal := shapeCast ⟨2, ![6144, 8192]⟩ A (by decide +kernel)
/-- The column scales as one row. -/
def scalesOf : (⟨2, ![1, 10240]⟩ : Shape).Idx → EReal := shapeCast ⟨2, ![1, 10240]⟩ s (by decide +kernel)

/-- The codes of `h`. -/
def retHC : (⟨3, ![12, 512, 5120]⟩ : Shape).Idx → EReal := shapeCast ⟨3, ![12, 512, 5120]⟩ (resHC (rowsOf A) W G (scalesOf s)) (by decide +kernel)
/-- The scales of `h`. -/
def retHS : (⟨2, ![12, 512]⟩ : Shape).Idx → EReal := shapeCast ⟨2, ![12, 512]⟩ (resHS (rowsOf A) W G (scalesOf s)) (by decide +kernel)
/-- The codes of `x`. -/
def retXC : (⟨3, ![12, 512, 8192]⟩ : Shape).Idx → EReal := shapeCast ⟨3, ![12, 512, 8192]⟩ (resXC (rowsOf A)) (by decide +kernel)
/-- The scales of `x`. -/
def retXS : (⟨2, ![12, 512]⟩ : Shape).Idx → EReal := shapeCast ⟨2, ![12, 512]⟩ (resXS (rowsOf A)) (by decide +kernel)

end Returned

end Cert.Spec

end
-- ==== Proof.Cells.lean ====
module

public import proofs.«01_k».proof.Proof.Spec
public import proofs.«01_k».proof.Proof.Vals
public import Idealize.ShloMosaic.Lib.Pointwise
public import Idealize.ShloMosaic.Lib.Pointwise.Tactic

@[expose] public section

set_option maxRecDepth 16384

/-! # The kernel's values, cell by cell -/

noncomputable section

namespace Cert.KernelIdeal.Cells

open Idealize.ShloMosaic Cert.Rows Cert.KernelIdeal.Gen Cert.KernelIdeal.Vals Cert.Scale Cert.Spec Cert.KernelIdeal.Nibble

/-- One step of the search for the exponent field, on a column of values. -/
def vstep (v : FVec Ideal S32x1 .f32) (b : BitVec 32) (f : IVec S32x1 32) : IVec S32x1 32 := fun i => step (v i) b (f i)

/-- The kernel's operations for one step are that step. -/
theorem vstep_eq (v : FVec Ideal S32x1 .f32) (b : BitVec 32) (f : IVec S32x1 32) :
    select (cmpf .oge v (bitcastToFloat (F := Ideal) .f32 (shli (addi f (broadcast S32x1 b)) (broadcast S32x1 23#32))))
      (addi f (broadcast S32x1 b)) f = vstep v b f := rfl

/-- The first four steps for `x`. -/
theorem pay5_eq (ch : Vec Ideal S32x8192 .bf16) :
    k0_pay5 ch = vstep (k0_pay4 ch) 16#32 (vstep (k0_pay4 ch) 32#32 (vstep (k0_pay4 ch) 64#32 (vstep (k0_pay4 ch) 128#32 (broadcast S32x1 0#32)))) := by
  unfold k0_pay5
  dsimp only
  rw [vstep_eq _ 128#32, vstep_eq _ 64#32, vstep_eq _ 32#32, vstep_eq _ 16#32]

/-- The end of the search: a value too large counts as infinite, and zero and infinity have exponent zero. -/
def vlast (v : FVec Ideal S32x1 .f32) (f : IVec S32x1 32) : IVec S32x1 32 := fun i =>
  let c := Scalar.select (Ideal.cmp .oge (v i) (Ideal.ofBits .f32 0x7B800000#32)) 255#32 (f i)
  Scalar.select (IntOp.ori (IntOp.cmpi .eq c 0#32) (IntOp.cmpi .eq c 255#32)) 0#32 (IntOp.subi c 126#32)

/-- The kernel's operations at the end of the search. -/
theorem vlast_eq (v : FVec Ideal S32x1 .f32) (f : IVec S32x1 32) :
    select (ori (cmpi .eq (select (cmpf .oge v (broadcast S32x1 (Scalar.ofBits (F := Ideal) .f32 0x7B800000#32))) (broadcast S32x1 255#32) f) (broadcast S32x1 0#32))
        (cmpi .eq (select (cmpf .oge v (broadcast S32x1 (Scalar.ofBits (F := Ideal) .f32 0x7B800000#32))) (broadcast S32x1 255#32) f) (broadcast S32x1 255#32)))
      (broadcast S32x1 0#32)
      (subi (select (cmpf .oge v (broadcast S32x1 (Scalar.ofBits (F := Ideal) .f32 0x7B800000#32))) (broadcast S32x1 255#32) f) (broadcast S32x1 126#32))
      = vlast v f := rfl

/-- The last four steps for `x`. -/
theorem pay7_eq (v : FVec Ideal S32x1 .f32) (f : IVec S32x1 32) :
    k0_pay7 v f (addi f (broadcast S32x1 8#32)) = vlast v (vstep v 1#32 (vstep v 2#32 (vstep v 4#32 (vstep v 8#32 f)))) := by
  unfold k0_pay7
  dsimp only
  rw [vstep_eq _ 8#32, vstep_eq _ 4#32, vstep_eq _ 2#32, vstep_eq _ 1#32]
  exact vlast_eq _ _

/-- The eight steps of the search and the choices after them give the exponent of the scale. -/
theorem vlast_apply (v : FVec Ideal S32x1 .f32) (i : S32x1.Idx) :
    vlast v (vstep v 1#32 (vstep v 2#32 (vstep v 4#32 (vstep v 8#32 (vstep v 16#32 (vstep v 32#32 (vstep v 64#32
      (vstep v 128#32 (broadcast S32x1 0#32))))))))) i = expo (v i) := by
  unfold vlast vstep expo fieldC field
  rfl

/-- The exponent of a row of `x`. -/
theorem xE_apply (ch : Vec Ideal S32x8192 .bf16) (i : S32x1.Idx) : xE ch i = expo (k0_pay4 ch i) := by
  unfold xE k0_pay6
  dsimp only
  rw [pay7_eq, pay5_eq, vlast_apply]

/-- The first four steps for `h`. -/
theorem pay10_eq (a : Vec Ideal S32x128 .f32) :
    k0_pay10 a = vstep (k0_pay9 a) 16#32 (vstep (k0_pay9 a) 32#32 (vstep (k0_pay9 a) 64#32 (vstep (k0_pay9 a) 128#32 (broadcast S32x1 0#32)))) := by
  unfold k0_pay10
  dsimp only
  rw [vstep_eq _ 128#32, vstep_eq _ 64#32, vstep_eq _ 32#32, vstep_eq _ 16#32]

/-- The last four steps for `h`. -/
theorem pay13_eq (v : FVec Ideal S32x1 .f32) (f : IVec S32x1 32) :
    k0_pay13 v f (addi f (broadcast S32x1 8#32)) (shli (addi f (broadcast S32x1 8#32)) (broadcast S32x1 23#32))
      = vlast v (vstep v 1#32 (vstep v 2#32 (vstep v 4#32 (vstep v 8#32 f)))) := by
  unfold k0_pay13
  dsimp only
  rw [vstep_eq _ 8#32, vstep_eq _ 4#32, vstep_eq _ 2#32, vstep_eq _ 1#32]
  exact vlast_eq _ _

/-- The exponent of a row of `h`. -/
theorem hE_apply (a : Vec Ideal S32x128 .f32) (i : S32x1.Idx) :
    k0_pay13 (k0_pay9 a) (k0_pay10 a) (k0_pay11 a) (k0_pay12 a) i = expo (k0_pay9 a i) := by
  unfold k0_pay12 k0_pay11
  dsimp only
  rw [pay13_eq, pay10_eq, vlast_apply]

/-- The scale of a row of `h`. -/
theorem hS_apply (a : Vec Ideal S32x128 .f32) (i : S32x1.Idx) : hS a i = scale (k0_pay9 a i) := by
  unfold scale
  rw [← hE_apply]
  rfl

/-- The exponent word of the inverse scale of a row of `h`. -/
theorem hI_apply (a : Vec Ideal S32x128 .f32) (i : S32x1.Idx) : hI a i = IntOp.subi 127#32 (expo (k0_pay9 a i)) := by
  rw [← hE_apply]
  rfl

/-- The code of one value of `h`. -/
theorem hC_apply (a : Vec Ideal S32x128 .f32) (h : Vec Ideal S32x5120 .f32) (r : Fin 32) (q : Fin 5120) :
    k0_pay2 (hI a) 23#32 h (ix2 r q) = clip (h (ix2 r q) * Scale.inv (k0_pay9 a (ix2 r 0))) := by
  unfold Scale.inv
  rw [← hI_apply]
  generalize hI a = e
  unfold k0_pay2
  pointwise
  rfl

/-- The value that decides the scale of a row of `x`, within a chunk of rows. -/
theorem pay4_apply (ch : Vec Ideal S32x8192 .bf16) (r : Fin 32) (z : Fin 1) :
    k0_pay4 ch (ix2 r z) = ratio (rowMax fun k => ch (ix2 r k)) := by
  unfold k0_pay4 k0_pay3 ratio rowMax
  pointwise
  rfl

/-- The value that decides the scale of a row of `h`, from its running maxima. -/
theorem pay9_apply (a : Vec Ideal S32x128 .f32) (r : Fin 32) (z : Fin 1) :
    k0_pay9 a (ix2 r z) = ratio (Finset.univ.fold max (Ideal.ofBits .f32 0xFF800000#32) fun k => a (ix2 r k)) := by
  unfold k0_pay9 ratio
  pointwise

/-- The scale of a row of a chunk of `x`. -/
theorem xS_apply (ch : Vec Ideal S32x8192 .bf16) (i : S32x1.Idx) : xS ch i = scale (k0_pay4 ch i) := by
  unfold scale
  rw [← xE_apply]
  rfl

/-- A code of a chunk of `x`. -/
theorem xC_apply (ch : Vec Ideal S32x8192 .bf16) (r : Fin 32) (k : Fin 8192) :
    k0_pay16 (k0_pay3 ch) (xE ch) 127#32 (ix2 r k) = code (fun k => ch (ix2 r k)) k := by
  unfold code
  rw [← pay4_apply ch r 0]
  unfold Scale.inv
  rw [← xE_apply]
  generalize xE ch = e
  unfold k0_pay16 k0_pay3
  pointwise
  rfl

/-- A running maximum: of the two halves of the columns computed at a point, and of what it was. -/
theorem pay1_apply (v : FVec Ideal S256x256 .f32) (a : Vec Ideal S256x128 .f32) (r : Fin 256) (l : Fin 128) :
    k0_pay1 v a (ix2 r l) = max (a (ix2 r l)) (max (v (ix2 r ⟨l.val, by omega⟩)) (v (ix2 r ⟨128 + l.val, by omega⟩))) := by
  unfold k0_pay1
  pointwise

/-- A gate weight within one group. -/
theorem wg_apply (w : Vec Ideal S128x256 .i8) (g : Vec Ideal S1x256 .f32) (r : Fin 128) (c : Fin 256) :
    k0_pay21 w g (ix2 r c) = ((((16 * (lo (w (ix2 r c))).toInt : ℤ) : ℝ)) : EReal) * g (ix2 0 c) := by
  unfold k0_pay21 k0_pay20
  pointwise
  rw [← lo_toInt]
  exact congrArg (fun b : BitVec 8 => (((b.toInt : ℝ) : EReal)) * g (ix2 0 c)) (gate_byte _ _ _ r c)

/-- An up weight within one group. -/
theorem wu_apply (w : Vec Ideal S128x256 .i8) (g : Vec Ideal S1x256 .f32) (r : Fin 128) (c : Fin 256) :
    k0_pay22 w g (ix2 r c) = ((((16 * (hi (w (ix2 r c))).toInt : ℤ) : ℝ)) : EReal) * g (ix2 0 c) := by
  unfold k0_pay22 k0_pay20
  pointwise
  rw [← hi_toInt]
  exact congrArg (fun b : BitVec 8 => (((b.toInt : ℝ) : EReal)) * g (ix2 0 c)) (up_byte _ _ _ r c)

/-- The scaled code that is multiplied. -/
theorem xB_apply (ch : Vec Ideal S32x8192 .bf16) (r : Fin 32) (k : Fin 8192) :
    k0_pay17 (k0_pay3 ch) (xE ch) 127#32 (ix2 r k) = code (fun k => ch (ix2 r k)) k * Ideal.ofBits .bf16 0x3D80#16 := by
  rw [← xC_apply]
  unfold k0_pay17
  pointwise

/-- A cell of `h`, from the factors and the scales of one point. -/
theorem pay23_apply (xb : Vec Ideal S256x8192 .bf16) (wg wu : Vec Ideal S8192x256 .bf16) (ts : Vec Ideal S256x1 .f32) (sg su : Vec Ideal S1x256 .f32)
    (r c : Fin 256) :
    k0_pay23 xb wg wu ts sg su (ix2 r c) =
      swiglu ((∑ k : Fin 8192, xb (ix2 r k) * wg (ix2 k c)) * ts (ix2 r 0) * sg (ix2 0 c))
        ((∑ k : Fin 8192, xb (ix2 r k) * wu (ix2 k c)) * ts (ix2 r 0) * su (ix2 0 c)) := by
  unfold k0_pay23 swiglu
  pointwise

end Cert.KernelIdeal.Cells

end
-- ==== Proof.Block.lean ====
module

public import proofs.«01_k».proof.Proof.Cells

@[expose] public section

set_option maxRecDepth 16384

/-! # The kernel's blocks, cell by cell

The values of a whole block, which the kernel computes chunk by chunk, in terms of the cells of the block's inputs. -/

noncomputable section

namespace Cert.KernelIdeal.Block

open Idealize.ShloMosaic Cert.Rows Cert.KernelIdeal.Gen Cert.KernelIdeal.Vals Cert.Scale Cert.Spec Cert.KernelIdeal.Nibble
open Cert.KernelIdeal.Cells

/-- The row of a chunk that holds row `r` of the array. -/
theorem chunk_row {R C : ℕ} {α : Type} [NeZero R] (B : ℕ) [NeZero B] (X : (⟨2, ![R, C]⟩ : Shape).Idx → α) (r : Fin R) (c : Fin C) :
    chunk B X (r.val / B) (ix2 ⟨r.val % B, Nat.mod_lt _ (Nat.pos_of_neZero B)⟩ c) = X (ix2 r c) := by
  unfold chunk
  refine congrArg X (idx_ext ?_ rfl)
  show (B * (r.val / B) + r.val % B) % R = r.val
  rw [Nat.div_add_mod, Nat.mod_eq_of_lt r.isLt]

/-- The codes of a row block of `x`. -/
theorem XC_apply (x : Vec Ideal S256x8192 .bf16) (r : Fin 256) (k : Fin 8192) : XC x (ix2 r k) = code (fun k => x (ix2 r k)) k := by
  refine (xC_apply (chunk 32 x (r.val / 32)) ⟨r.val % 32, Nat.mod_lt _ (by decide)⟩ k).trans ?_
  exact congrArg (fun f => code f k) (funext fun k => chunk_row 32 x r k)

/-- The left factor of the products: the codes over 16. -/
theorem XB_apply (x : Vec Ideal S256x8192 .bf16) (r : Fin 256) (k : Fin 8192) :
    XB x (ix2 r k) = code (fun k => x (ix2 r k)) k * Ideal.ofBits .bf16 0x3D80#16 := by
  refine (xB_apply (chunk 32 x (r.val / 32)) ⟨r.val % 32, Nat.mod_lt _ (by decide)⟩ k).trans ?_
  exact congrArg (fun f => code f k * Ideal.ofBits .bf16 0x3D80#16) (funext fun k => chunk_row 32 x r k)

/-- The scales of a row block of `x`, as written out. -/
theorem XS_apply (x : Vec Ideal S256x8192 .bf16) (r : Fin 256) (z : Fin 1) : XS x (ix2 r z) = rowScale fun k => x (ix2 r k) := by
  refine (xS_apply (chunk 32 x (r.val / 32)) (ix2 ⟨r.val % 32, Nat.mod_lt _ (by decide)⟩ z)).trans ?_
  rw [pay4_apply]
  exact congrArg rowScale (funext fun k => chunk_row 32 x r k)

/-- The same scales, as kept for the later points of the row block. -/
theorem TS_apply (x : Vec Ideal S256x8192 .bf16) (r : Fin 256) (z : Fin 1) : TS x (ix2 r z) = rowScale fun k => x (ix2 r k) := by
  rw [← XS_apply x r z]
  have h (v : FVec Ideal S32x1 .f32) : k0_pay18 v = v := by unfold k0_pay18; funext i; rw [← ix2_eta i]; pointwise
  unfold TS XS unchunk
  exact congrFun (h _) _

/-- The group scale that the chunk holding row `k` is multiplied by. -/
theorem chunk_group (g : Vec Ideal S64x256 .f32) (k : Fin 8192) (c : Fin 256) :
    chunk 1 g (k.val / 128) (ix2 0 c) = g (ix2 ⟨k.val / 128, by have := k.isLt; omega⟩ c) := by
  unfold chunk
  refine congrArg g (idx_ext ?_ rfl)
  show (1 * (k.val / 128) + 0) % 64 = k.val / 128
  have := k.isLt
  omega

/-- A gate weight: sixteen times its signed field, times its group scale. -/
theorem WG_apply (w : Vec Ideal S8192x256 .i8) (g : Vec Ideal S64x256 .f32) (k : Fin 8192) (c : Fin 256) :
    WG w g (ix2 k c) = ((((16 * (lo (w (ix2 k c))).toInt : ℤ) : ℝ)) : EReal) * g (ix2 ⟨k.val / 128, by have := k.isLt; omega⟩ c) := by
  refine (wg_apply (chunk 128 w (k.val / 128)) (chunk 1 g (k.val / 128)) ⟨k.val % 128, Nat.mod_lt _ (by decide)⟩ c).trans ?_
  rw [chunk_group]
  exact congrArg (fun b : BitVec 8 => ((((16 * (lo b).toInt : ℤ) : ℝ)) : EReal) * _) (chunk_row 128 w k c)

/-- An up weight: sixteen times its signed field, times its group scale. -/
theorem WU_apply (w : Vec Ideal S8192x256 .i8) (g : Vec Ideal S64x256 .f32) (k : Fin 8192) (c : Fin 256) :
    WU w g (ix2 k c) = ((((16 * (hi (w (ix2 k c))).toInt : ℤ) : ℝ)) : EReal) * g (ix2 ⟨k.val / 128, by have := k.isLt; omega⟩ c) := by
  refine (wu_apply (chunk 128 w (k.val / 128)) (chunk 1 g (k.val / 128)) ⟨k.val % 128, Nat.mod_lt _ (by decide)⟩ c).trans ?_
  rw [chunk_group]
  exact congrArg (fun b : BitVec 8 => ((((16 * (hi b).toInt : ℤ) : ℝ)) : EReal) * _) (chunk_row 128 w k c)

/-- A bf16 word of sign 0, exponent field 123 and fraction 0 is a sixteenth. -/
theorem ieee_sixteenth (b : BitVec 16) (ha : (b.extractLsb' 15 1 == 1#1) = false) (hb : (b.extractLsb' 7 8).toNat = 123)
    (hc : (b.extractLsb' 0 7).toNat = 0) : Ideal.ieee 8 7 b = (((16 : ℝ)⁻¹ : ℝ) : EReal) := by
  unfold Ideal.ieee
  simp only [Nat.reduceAdd, ha, hb, hc]
  norm_num

/-- The bf16 constant by which the kernel multiplies the codes is a sixteenth. -/
theorem sixteenth : Ideal.ofBits .bf16 0x3D80#16 = (((16 : ℝ)⁻¹ : ℝ) : EReal) :=
  ieee_sixteenth 0x3D80#16 (by decide) (by decide) (by decide)

/-- A sixteenth of a code times sixteen times a weight is the code times the weight. -/
theorem sixteen_cancel (q g : EReal) (n : ℤ) :
    q * Ideal.ofBits .bf16 0x3D80#16 * ((((16 * n : ℤ) : ℝ) : EReal) * g) = q * (((n : ℝ) : EReal) * g) := by
  rw [sixteenth, mul_assoc, ← mul_assoc _ _ g, ← EReal.coe_mul]
  congr 3
  push_cast
  ring

/-- A cell of the columns of `h` computed at a point. -/
theorem HN_apply (x : Vec Ideal S256x8192 .bf16) (w : Vec Ideal S8192x256 .i8) (gg gu : Vec Ideal S64x256 .f32) (sg su : Vec Ideal S1x256 .f32)
    (r c : Fin 256) :
    HN (XB x) (TS x) w gg gu sg su (ix2 r c) =
      hcell (fun k => x (ix2 r k)) (fun k => w (ix2 k c)) (fun i => gg (ix2 i c)) (fun i => gu (ix2 i c)) (sg (ix2 0 c)) (su (ix2 0 c)) := by
  unfold HN k0_pay24
  pointwise
  rw [pay23_apply]
  unfold hcell dot
  simp only [XB_apply, WG_apply, WU_apply, TS_apply, sixteen_cancel]

/-- The absolute value of such a cell. -/
theorem HA_apply (xb : Vec Ideal S256x8192 .bf16) (ts : Vec Ideal S256x1 .f32) (w : Vec Ideal S8192x256 .i8) (gg gu : Vec Ideal S64x256 .f32)
    (sg su : Vec Ideal S1x256 .f32) (i : S256x256.Idx) :
    HA xb ts w gg gu sg su i = max (HN xb ts w gg gu sg su i) (-(HN xb ts w gg gu sg su i)) := by
  obtain ⟨r, c, rfl⟩ : ∃ r c, i = ix2 r c := ⟨_, _, eq_ix2 i⟩
  unfold HA HN k0_pay24 k0_pay25
  pointwise
  rfl

/-- The codes of `h`, from the running maxima and the kept `h`. -/
theorem HC_apply (a : Vec Ideal S256x128 .f32) (h : Vec Ideal S256x5120 .f32) (r : Fin 256) (q : Fin 5120) :
    HC a h (ix2 r q) = clip (h (ix2 r q) * Scale.inv (ratio (Finset.univ.fold max (Ideal.ofBits .f32 0xFF800000#32) fun l => a (ix2 r l)))) := by
  refine (hC_apply (chunk 32 a (r.val / 32)) (chunk 32 h (r.val / 32)) ⟨r.val % 32, Nat.mod_lt _ (by decide)⟩ q).trans ?_
  rw [pay9_apply, show chunk 32 h (r.val / 32) (ix2 ⟨r.val % 32, Nat.mod_lt _ (by decide)⟩ q) = _ from chunk_row 32 h r q]
  exact congrArg (fun f => clip (h (ix2 r q) * Scale.inv (ratio (Finset.univ.fold max (Ideal.ofBits .f32 0xFF800000#32) f)))) (funext fun l => chunk_row 32 a r l)

/-- The scales of `h`, from the running maxima. -/
theorem HS_apply (a : Vec Ideal S256x128 .f32) (r : Fin 256) (z : Fin 1) :
    HS a (ix2 r z) = scale (ratio (Finset.univ.fold max (Ideal.ofBits .f32 0xFF800000#32) fun l => a (ix2 r l))) := by
  refine (hS_apply (chunk 32 a (r.val / 32)) (ix2 ⟨r.val % 32, Nat.mod_lt _ (by decide)⟩ z)).trans ?_
  rw [pay9_apply]
  exact congrArg (fun f => scale (ratio (Finset.univ.fold max (Ideal.ofBits .f32 0xFF800000#32) f))) (funext fun l => chunk_row 32 a r l)

end Cert.KernelIdeal.Block

end
-- ==== Proof.Points.lean ====
module

public import proofs.«01_k».proof.Proof.Run
public import proofs.«01_k».proof.Proof.Block

@[expose] public section

set_option maxRecDepth 16384

/-! # What the kernel leaves at the last point of a row block

The four output blocks in terms of the arrays the kernel finds. -/

noncomputable section

namespace Cert.KernelIdeal.Points

open Idealize.ShloMosaic Idealize.ShloMosaic.TcCoe Idealize.ShloMosaic.Tactic
open Idealize.ShloMosaic.Pipeline (Dat Cfg Window)
open Cert.Rows Cert.KernelIdeal.Gen Cert.KernelIdeal.Vals Cert.KernelIdeal.Hand Cert.KernelIdeal.Block Cert.KernelIdeal.Cells Cert.Spec

variable (m : (ℓ : Loc nD τ sig) → Buf (Elt Ideal) ℓ)

/-- The row of the whole array that is row `r` of the row block of point `t`. -/
def rowOf (t : Fin cfg0.N) (r : Fin 256) : Fin 6144 :=
  ⟨t.val / 20 * 256 + r.val, by have h : t.val < grid0.N := t.isLt; have hN : grid0.N = 480 := N_0; omega⟩

/-- The row of `h` that the kernel computes, from the arrays it finds. -/
abbrev krow (c : Dev nD) : Fin 6144 → Fin 5120 → EReal := hrow (V m c main_v1) (V m c main_arg1) (V m c main_arg2) (V m c main_v0)

/-- The columns of `h` computed at a point. -/
theorem hn_apply (c : Dev nD) (t : Fin cfg0.N) (r cc : Fin 256) (q : Fin 5120) (hq : q.val = t.val % 20 * 256 + cc.val) :
    hn m c t (ix2 r cc) = krow m c (rowOf t r) q := by
  unfold hn krow hrow
  rw [HN_apply]
  simp only [iblk_0, iblk_1, iblk_2, iblk_3, iblk_4, iblk_5]
  congr 1
  · funext k
    exact congrArg (V m c main_arg1) (idx_ext rfl hq.symm)
  · funext i
    exact congrArg (V m c main_arg2) (idx_ext rfl hq.symm)
  · funext i
    refine congrArg (V m c main_arg2) (idx_ext rfl ?_)
    show (t.val % 20 + 20) * 256 + cc.val = 5120 + q.val
    omega
  · exact congrArg (V m c main_v0) (idx_ext rfl hq.symm)
  · refine congrArg (V m c main_v0) (idx_ext rfl ?_)
    show (t.val % 20 + 20) * 256 + cc.val = 5120 + q.val
    omega

/-- The whole of `h` for a row block. -/
theorem hv_apply (c : Dev nD) (t : Fin cfg0.N) (r : Fin 256) (q : Fin 5120) : hv m c t (ix2 r q) = krow m c (rowOf t r) q := by
  unfold hv
  refine (hn_apply m c (ptOf t q) r _ q ?_).trans ?_
  · show q.val = (t.val / 20 * 20 + q.val / 256) % 20 * 256 + q.val % 256
    have := q.isLt
    omega
  · refine congrArg (fun R => krow m c R q) (Fin.ext ?_)
    show (t.val / 20 * 20 + q.val / 256) / 20 * 256 + r.val = t.val / 20 * 256 + r.val
    have := q.isLt
    omega

/-- The running maxima start at zero. -/
theorem pay19_apply (i : S256x128.Idx) : (k0_pay19 : FVec Ideal S256x128 .f32) i = 0 := by
  obtain ⟨r, l, rfl⟩ : ∃ r l, i = ix2 r l := ⟨_, _, eq_ix2 i⟩
  unfold k0_pay19
  pointwise

/-- A running maximum is at most `B` exactly when zero and all the absolute values it has met are. -/
theorem am_le (c : Dev nD) (r : Fin 256) (l : Fin 128) (B : EReal) (n : ℕ) (t : Fin cfg0.N) (ht : t.val = n) :
    am m c t.val t.isLt (ix2 r l) ≤ B ↔ 0 ≤ B ∧ ∀ t' : Fin cfg0.N, t.val / 20 * 20 ≤ t'.val → t'.val ≤ t.val →
      ha m c t' (ix2 r ⟨l.val, by omega⟩) ≤ B ∧ ha m c t' (ix2 r ⟨128 + l.val, by omega⟩) ≤ B := by
  induction n generalizing t with
  | zero =>
    rw [am_first m c t (by omega), pay1_apply, max_le_iff, max_le_iff, pay19_apply]
    refine and_congr_right fun _ => ⟨fun h t' h1 h2 => ?_, fun h => h t (by omega) (by omega)⟩
    obtain rfl : t' = t := Fin.ext (by omega)
    exact h
  | succ n ih =>
    by_cases h20 : t.val % 20 = 0
    · rw [am_first m c t h20, pay1_apply, max_le_iff, max_le_iff, pay19_apply]
      refine and_congr_right fun _ => ⟨fun h t' h1 h2 => ?_, fun h => h t (by omega) (by omega)⟩
      obtain rfl : t' = t := Fin.ext (by omega)
      exact h
    · have hlt := t.isLt
      rw [am_next m c t h20, pay1_apply, max_le_iff, max_le_iff, ih ⟨t.val - 1, by omega⟩ (by show t.val - 1 = n; omega)]
      constructor
      · rintro ⟨⟨h0, h1⟩, h2⟩
        refine ⟨h0, fun t' a b => ?_⟩
        by_cases e : t'.val = t.val
        · obtain rfl : t' = t := Fin.ext e
          exact h2
        · exact h1 t' (by show (t.val - 1) / 20 * 20 ≤ t'.val; omega) (by show t'.val ≤ t.val - 1; omega)
      · rintro ⟨h0, h1⟩
        refine ⟨⟨h0, fun t' a b => h1 t' ?_ ?_⟩, h1 t (by omega) le_rfl⟩
        · have a' : (t.val - 1) / 20 * 20 ≤ t'.val := a
          omega
        · have b' : t'.val ≤ t.val - 1 := b
          omega

/-- Absolute values are not negative. -/
theorem abs_nonneg' (z : EReal) : 0 ≤ max z (-z) := by
  rcases le_total 0 z with h | h
  · exact le_max_of_le_left h
  · exact le_max_of_le_right (EReal.neg_nonneg.mpr h)

/-- The largest of the running maxima of a row, after the last point of its row block, is the row's largest absolute value. -/
theorem am_fold (c : Dev nD) (t : Fin cfg0.N) (ht : t.val % 20 = 19) (r : Fin 256) :
    (Finset.univ.fold max (Ideal.ofBits .f32 0xFF800000#32) fun l => am m c t.val t.isLt (ix2 r l)) = rowMax (krow m c (rowOf t r)) := by
  have hlt : t.val < grid0.N := t.isLt
  have hN : grid0.N = 480 := N_0
  refine eq_of_forall_ge_iff fun B => ?_
  unfold rowMax
  rw [Finset.fold_max_le, Finset.fold_max_le]
  refine and_congr_right fun _ => ?_
  have key (q : Fin 5120) : max (krow m c (rowOf t r) q) (-(krow m c (rowOf t r) q)) = ha m c (ptOf t q) (ix2 r ⟨q.val % 256, Nat.mod_lt _ (by decide)⟩) := by
    unfold ha
    rw [HA_apply, ← hv_apply]
    rfl
  constructor
  · intro h q _
    rw [key]
    have hq := q.isLt
    have h1 := ((am_le m c r ⟨q.val % 128, Nat.mod_lt _ (by decide)⟩ B t.val t rfl).mp (h _ (Finset.mem_univ _))).2 (ptOf t q)
      (by show t.val / 20 * 20 ≤ t.val / 20 * 20 + q.val / 256; omega) (by show t.val / 20 * 20 + q.val / 256 ≤ t.val; omega)
    by_cases hh : q.val % 256 < 128
    · have e : (⟨q.val % 256, Nat.mod_lt _ (by decide)⟩ : Fin 256) = ⟨q.val % 128, by omega⟩ := Fin.ext (by show q.val % 256 = q.val % 128; omega)
      rw [e]
      exact h1.1
    · have e : (⟨q.val % 256, Nat.mod_lt _ (by decide)⟩ : Fin 256) = ⟨128 + q.val % 128, by omega⟩ := Fin.ext (by show q.val % 256 = 128 + q.val % 128; omega)
      rw [e]
      exact h1.2
  · intro h l _
    have hat (t' : Fin cfg0.N) (a : t.val / 20 * 20 ≤ t'.val) (b : t'.val ≤ t.val) (cc : Fin 256) : ha m c t' (ix2 r cc) ≤ B := by
      have h1 := h ⟨t'.val % 20 * 256 + cc.val, by omega⟩ (Finset.mem_univ _)
      rw [key] at h1
      have e1 : ptOf t ⟨t'.val % 20 * 256 + cc.val, by omega⟩ = t' := Fin.ext (by
        show t.val / 20 * 20 + (t'.val % 20 * 256 + cc.val) / 256 = t'.val
        omega)
      have e2 : (⟨(t'.val % 20 * 256 + cc.val) % 256, Nat.mod_lt _ (by decide)⟩ : Fin 256) = cc := Fin.ext (by
        show (t'.val % 20 * 256 + cc.val) % 256 = cc.val
        omega)
      rw [e1, e2] at h1
      exact h1
    refine (am_le m c r l B t.val t rfl).mpr ⟨?_, fun t' a b => ⟨hat t' a b _, hat t' a b _⟩⟩
    exact (abs_nonneg' _).trans (h 0 (Finset.mem_univ _))

/-- The codes of `h` left for a row block. -/
theorem out_hc (c : Dev nD) (t : Fin cfg0.N) (ht : t.val % 20 = 19) (r : Fin 256) (q : Fin 5120) :
    HC (am m c t.val t.isLt) (hv m c t) (ix2 r q) = code (krow m c (rowOf t r)) q := by
  rw [HC_apply, am_fold m c t ht, hv_apply]
  rfl

/-- The scales of `h` left for a row block. -/
theorem out_hs (c : Dev nD) (t : Fin cfg0.N) (ht : t.val % 20 = 19) (r : Fin 256) (z : Fin 1) :
    HS (am m c t.val t.isLt) (ix2 r z) = rowScale (krow m c (rowOf t r)) := by
  rw [HS_apply, am_fold m c t ht]
  rfl

/-- The codes of `x` left for a row block. -/
theorem out_xc (c : Dev nD) (t : Fin cfg0.N) (r : Fin 256) (k : Fin 8192) :
    XC (iblk m c 0 t) (ix2 r k) = code (fun k => V m c main_v1 (ix2 (rowOf t r) k)) k := by
  rw [XC_apply]
  exact congrArg (fun f => code f k) (funext fun k => iblk_0 m c t (ix2 r k))

/-- The scales of `x` left for a row block. -/
theorem out_xs (c : Dev nD) (t : Fin cfg0.N) (r : Fin 256) (z : Fin 1) :
    XS (iblk m c 0 t) (ix2 r z) = rowScale fun k => V m c main_v1 (ix2 (rowOf t r) k) := by
  rw [XS_apply]
  exact congrArg rowScale (funext fun k => iblk_0 m c t (ix2 r k))

end Cert.KernelIdeal.Points

end
-- ==== Proof.KerFinal.lean ====
module

public import proofs.«01_k».proof.Proof.Points

@[expose] public section

set_option maxRecDepth 16384

/-! # The kernel's four arrays at the end of its grid -/

noncomputable section

namespace Cert.KernelIdeal.Points

open Idealize.ShloMosaic Idealize.ShloMosaic.TcCoe Idealize.ShloMosaic.Tactic
open Idealize.ShloMosaic.Pipeline (Dat Cfg Window)
open Cert.Rows Cert.KernelIdeal.Gen Cert.KernelIdeal.Vals Cert.KernelIdeal.Hand Cert.KernelIdeal.Block Cert.KernelIdeal.Cells Cert.Spec

variable (m : (ℓ : Loc nD τ sig) → Buf (Elt Ideal) ℓ)

/-- An index of a block is the pair of its coordinates. -/
theorem eta2 {a b : ℕ} (y : (⟨2, ![a, b]⟩ : Shape).Idx) : y = ix2 (y 0) (y 1) := idx_ext rfl rfl

/-- A block of the codes of `h`, cell by cell. -/
theorem cell_6 (c : Dev nD) (t : Fin cfg0.N) (ht : t.val % 20 = 19) (y : S256x5120.Idx) :
    HC (am m c t.val t.isLt) (hv m c t) y = resHC (V m c main_v1) (V m c main_arg1) (V m c main_arg2) (V m c main_v0) (ix2 (rowOf t (y 0)) (y 1)) :=
  (congrArg (HC (am m c t.val t.isLt) (hv m c t)) (eta2 y)).trans (out_hc m c t ht (y 0) (y 1))

/-- Where a block of the codes of `h` lies. -/
theorem emb_6 (t : Fin grid0.N) (y : S256x5120.Idx) : (win0_6.blk t).view.emb y = ix2 (rowOf t (y 0)) (y 1) := by
  refine idx_ext ?_ ?_
  · blk_simp [index_6, rowOf]
  · blk_simp [index_6]

/-- The array of the codes of `h`. -/
theorem arr_6 (c : Dev nD) : (dats m 0 c).arrAt 6 cfg0.N = resHC (V m c main_v1) (V m c main_arg1) (V m c main_arg2) (V m c main_v0) := by
  refine (dats m 0 c).arrAt_eq_of_covers 6 _ (by decide +kernel) fun t hf y => ?_
  have ht := (flush0_6 t).mp hf
  blk_simp
  rw [after0_6, emb_6]
  exact cell_6 m c t ht y

/-- A block of the scales of `h`, cell by cell. -/
theorem cell_7 (c : Dev nD) (t : Fin cfg0.N) (ht : t.val % 20 = 19) (y : S256x1.Idx) :
    HS (am m c t.val t.isLt) y = resHS (V m c main_v1) (V m c main_arg1) (V m c main_arg2) (V m c main_v0) (ix2 (rowOf t (y 0)) (y 1)) :=
  (congrArg (HS (am m c t.val t.isLt)) (eta2 y)).trans (out_hs m c t ht (y 0) (y 1))

/-- Where a block of the scales of `h` lies. -/
theorem emb_7 (t : Fin grid0.N) (y : S256x1.Idx) : (win0_7.blk t).view.emb y = ix2 (rowOf t (y 0)) (y 1) := by
  refine idx_ext ?_ ?_
  · blk_simp [index_7, rowOf]
  · blk_simp [index_7]

/-- The array of the scales of `h`. -/
theorem arr_7 (c : Dev nD) : (dats m 0 c).arrAt 7 cfg0.N = resHS (V m c main_v1) (V m c main_arg1) (V m c main_arg2) (V m c main_v0) := by
  refine (dats m 0 c).arrAt_eq_of_covers 7 _ (by decide +kernel) fun t hf y => ?_
  have ht := (flush0_7 t).mp hf
  blk_simp
  rw [after0_7, emb_7]
  exact cell_7 m c t ht y

/-- A block of the codes of `x`, cell by cell. -/
theorem cell_8 (c : Dev nD) (t : Fin cfg0.N) (y : S256x8192.Idx) :
    XC (iblk m c 0 t) y = resXC (V m c main_v1) (ix2 (rowOf t (y 0)) (y 1)) :=
  (congrArg (XC (iblk m c 0 t)) (eta2 y)).trans (out_xc m c t (y 0) (y 1))

/-- Where a block of the codes of `x` lies. -/
theorem emb_8 (t : Fin grid0.N) (y : S256x8192.Idx) : (win0_8.blk t).view.emb y = ix2 (rowOf t (y 0)) (y 1) := by
  refine idx_ext ?_ ?_
  · blk_simp [index_8, rowOf]
  · blk_simp [index_8]

/-- The array of the codes of `x`. -/
theorem arr_8 (c : Dev nD) : (dats m 0 c).arrAt 8 cfg0.N = resXC (V m c main_v1) := by
  refine (dats m 0 c).arrAt_eq_of_covers 8 _ (by decide +kernel) fun t hf y => ?_
  have ht := (flush0_8 t).mp hf
  blk_simp
  rw [after0_8, emb_8]
  exact cell_8 m c t y

/-- A block of the scales of `x`, cell by cell. -/
theorem cell_9 (c : Dev nD) (t : Fin cfg0.N) (y : S256x1.Idx) :
    XS (iblk m c 0 t) y = resXS (V m c main_v1) (ix2 (rowOf t (y 0)) (y 1)) :=
  (congrArg (XS (iblk m c 0 t)) (eta2 y)).trans (out_xs m c t (y 0) (y 1))

/-- Where a block of the scales of `x` lies. -/
theorem emb_9 (t : Fin grid0.N) (y : S256x1.Idx) : (win0_9.blk t).view.emb y = ix2 (rowOf t (y 0)) (y 1) := by
  refine idx_ext ?_ ?_
  · blk_simp [index_9, rowOf]
  · blk_simp [index_9]

/-- The array of the scales of `x`. -/
theorem arr_9 (c : Dev nD) : (dats m 0 c).arrAt 9 cfg0.N = resXS (V m c main_v1) := by
  refine (dats m 0 c).arrAt_eq_of_covers 9 _ (by decide +kernel) fun t hf y => ?_
  have ht := (flush0_9 t).mp hf
  blk_simp
  rw [after0_9, emb_9]
  exact cell_9 m c t y

end Cert.KernelIdeal.Points
-- ==== Proof.KerResults.lean ====
module

public import proofs.«01_k».proof.Proof.KerFinal
public import Idealize.ShloMosaic.Lib.StableHlo.Run
public import Idealize.ShloMosaic.Lib.Claim

@[expose] public section

set_option maxRecDepth 16384

/-! # The kernel's results, from its arguments -/

noncomputable section

namespace Cert.KernelIdeal.Points

open Idealize.ShloMosaic Idealize.ShloMosaic.TcCoe Idealize.ShloMosaic.Tactic Idealize.SL.Sem
open Idealize.ShloMosaic.Pipeline (Dat Cfg Window)
open Cert.Rows Cert.KernelIdeal.Gen Cert.KernelIdeal.Vals Cert.KernelIdeal.Hand Cert.Spec

variable (m : (ℓ : Loc nD τ sig) → Buf (Elt Ideal) ℓ) (ρ : Dev nD → PrngReg)

/-- The column scales, as the region finds them. -/
theorem V_scales (c : Dev nD) : V m c main_v0 = scalesOf (m ((c : Thread nD τ).loc main_arg3)) := by
  show StableHlo.after hostOps0 _ (Proc.devRef .tc main_v0) = _
  after_results
  rfl

/-- `x`, as the region finds it. -/
theorem V_rows (c : Dev nD) : V m c main_v1 = rowsOf (m ((c : Thread nD τ).loc main_arg0)) := by
  show StableHlo.after hostOps0 _ (Proc.devRef .tc main_v1) = _
  after_results
  rfl

/-- The array of a window, after the region. -/
theorem left (c : Dev nD) (w : Fin cfg0.W) :
    Pipeline.withArrays cfg0.spec c (V0 m c) (fun w => (dats m 0 c).arrAt w cfg0.N) (Proc.devRef .tc (Pipeline.arrRef cfg0.spec w))
      = (dats m 0 c).arrAt w cfg0.N :=
  Dat.withArrays_arrAt (cfg := cfg0) (dats m 0 c) sharedIn0 (V0 m c) (A_eq m c) w

/-- The codes of `h`, as returned. -/
theorem tail_v3 (c : Dev nD) : Pipeline.afterTail₀ cfgs (dats m) 0 (V0 m) [hostOps1] c main_v3
    = retHC (m ((c : Thread nD τ).loc main_arg0)) (m ((c : Thread nD τ).loc main_arg1)) (m ((c : Thread nD τ).loc main_arg2)) (m ((c : Thread nD τ).loc main_arg3)) := by
  unfold Pipeline.afterTail₀ retHC
  rw [← V_rows, ← V_scales, ← V_main_arg1 m c, ← V_main_arg2 m c]
  show StableHlo.after hostOps1 _ (Proc.devRef .tc main_v3) = _
  after_results
  exact congrArg (fun f => shapeCast S12x512x5120 f shapeCasts_S6144x5120_S12x512x5120) ((left m c 6).trans (arr_6 m c))

/-- The scales of `h`, as returned. -/
theorem tail_v4 (c : Dev nD) : Pipeline.afterTail₀ cfgs (dats m) 0 (V0 m) [hostOps1] c main_v4
    = retHS (m ((c : Thread nD τ).loc main_arg0)) (m ((c : Thread nD τ).loc main_arg1)) (m ((c : Thread nD τ).loc main_arg2)) (m ((c : Thread nD τ).loc main_arg3)) := by
  unfold Pipeline.afterTail₀ retHS
  rw [← V_rows, ← V_scales, ← V_main_arg1 m c, ← V_main_arg2 m c]
  show StableHlo.after hostOps1 _ (Proc.devRef .tc main_v4) = _
  after_results
  exact congrArg (fun f => shapeCast S12x512 f shapeCasts_S6144x1_S12x512) ((left m c 7).trans (arr_7 m c))

/-- The codes of `x`, as returned. -/
theorem tail_v5 (c : Dev nD) : Pipeline.afterTail₀ cfgs (dats m) 0 (V0 m) [hostOps1] c main_v5
    = retXC (m ((c : Thread nD τ).loc main_arg0)) := by
  unfold Pipeline.afterTail₀ retXC
  rw [← V_rows]
  show StableHlo.after hostOps1 _ (Proc.devRef .tc main_v5) = _
  after_results
  exact congrArg (fun f => shapeCast S12x512x8192 f shapeCasts_S6144x8192_S12x512x8192) ((left m c 8).trans (arr_8 m c))

/-- The scales of `x`, as returned. -/
theorem tail_v6 (c : Dev nD) : Pipeline.afterTail₀ cfgs (dats m) 0 (V0 m) [hostOps1] c main_v6
    = retXS (m ((c : Thread nD τ).loc main_arg0)) := by
  unfold Pipeline.afterTail₀ retXS
  rw [← V_rows]
  show StableHlo.after hostOps1 _ (Proc.devRef .tc main_v6) = _
  after_results
  exact congrArg (fun f => shapeCast S12x512 f shapeCasts_S6144x1_S12x512) ((left m c 9).trans (arr_9 m c))

/-- The kernel returns the four results of its arguments, and leaves the arguments as they were. -/
theorem results : θ_run defs (onTc (τ := τ) (main (F := Ideal))) ⟨m, fun _ => 0, ρ⟩ (fun r => ∀ c : Dev nD,
      r.2.mem ((c.tc : Thread nD τ).loc main_v3) = retHC (m ((c : Thread nD τ).loc main_arg0)) (m ((c : Thread nD τ).loc main_arg1)) (m ((c : Thread nD τ).loc main_arg2)) (m ((c : Thread nD τ).loc main_arg3))
      ∧ r.2.mem ((c.tc : Thread nD τ).loc main_v4) = retHS (m ((c : Thread nD τ).loc main_arg0)) (m ((c : Thread nD τ).loc main_arg1)) (m ((c : Thread nD τ).loc main_arg2)) (m ((c : Thread nD τ).loc main_arg3))
      ∧ r.2.mem ((c.tc : Thread nD τ).loc main_v5) = retXC (m ((c : Thread nD τ).loc main_arg0))
      ∧ r.2.mem ((c.tc : Thread nD τ).loc main_v6) = retXS (m ((c : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).2 main_v3 (Pipeline.mem_restRefs_of main_v3 (by decide) (by decide))).trans (tail_v3 m c),
      ((h.1 c).2 main_v4 (Pipeline.mem_restRefs_of main_v4 (by decide) (by decide))).trans (tail_v4 m c),
      ((h.1 c).2 main_v5 (Pipeline.mem_restRefs_of main_v5 (by decide) (by decide))).trans (tail_v5 m c),
      ((h.1 c).2 main_v6 (Pipeline.mem_restRefs_of main_v6 (by decide) (by decide))).trans (tail_v6 m c), h.2.1 c⟩)
    (θ_run_and (run_main m ρ) (frame m ρ))

end Cert.KernelIdeal.Points
-- ==== Proof.RefCells.lean ====
module

public import proofs.«01_k».proof.Proof.Spec
public import proofs.«01_k».proof.Proof.Gen.ReferenceIdeal.Skeleton
public import Idealize.ShloMosaic.Lib.Pointwise
public import Idealize.ShloMosaic.Lib.Pointwise.Tactic

@[expose] public section

set_option maxRecDepth 16384

/-! # The reference's values, cell by cell -/

noncomputable section

namespace Cert.ReferenceIdeal.Cells

open Idealize.ShloMosaic Idealize.ShloMosaic.Pipeline Cert.ReferenceIdeal.Gen Cert.Scale Cert.Spec Cert.KernelIdeal.Nibble

/-- The column of the rows' largest values. -/
theorem rmax_apply {n0 n1 : ℕ} (src : FVec Ideal ⟨2, ![n0, n1]⟩ .f32) (h : (⟨2, ![n0, n1]⟩ : Shape).Reduces [1] ⟨1, ![n0]⟩) (hφ : FKind.Formats .f32)
    (hacc : 0xFF800000#32 = FKind.maximumf.neutral .f32 hφ) (h' : (⟨1, ![n0]⟩ : Shape).ShapeCasts ⟨2, ![n0, 1]⟩) (r : Fin n0) (z : Fin 1) :
    shapeCast ⟨2, ![n0, 1]⟩ (multiReduction .maximumf [1] ⟨1, ![n0]⟩ src 0xFF800000#32 h hφ hacc) h' (ix2 r z)
      = Finset.univ.fold max (Ideal.ofBits .f32 0xFF800000#32) fun k => src (ix2 r k) := by
  rw [shapeCast_apply _ h' (ix2 r z) (ix1 r) (by
    rw [Shape.rowMajor_val_one, Shape.rowMajor_val_two]
    have := z.isLt
    show r.val = r.val * 1 + z.val
    omega), multiReduction_maximumf_eq_fold, h.fold_fiber_r2_a1]
  rfl

/-- The column of the rows' largest absolute values over 448. -/
theorem ratio_apply {n0 n1 : ℕ} (x : FVec Ideal ⟨2, ![n0, n1]⟩ .f32) (h : (⟨2, ![n0, n1]⟩ : Shape).Reduces [1] ⟨1, ![n0]⟩) (hφ : FKind.Formats .f32)
    (hacc : 0xFF800000#32 = FKind.maximumf.neutral .f32 hφ) (h' : (⟨1, ![n0]⟩ : Shape).ShapeCasts ⟨2, ![n0, 1]⟩) (r : Fin n0) (z : Fin 1) :
    mulf (shapeCast ⟨2, ![n0, 1]⟩ (multiReduction .maximumf [1] ⟨1, ![n0]⟩ (absf x) 0xFF800000#32 h hφ hacc) h')
      (broadcast ⟨2, ![n0, 1]⟩ (Scalar.ofBits .f32 0x3B124925#32)) (ix2 r z) = ratio (rowMax fun k => x (ix2 r k)) := by
  show _ * _ = _
  rw [rmax_apply]
  rfl

/-- The scales of a column of values. -/
theorem pay1_apply (v : FVec Ideal S6144x1 .f32) (r : Fin 6144) (z : Fin 1) : k0_pay1 v (ix2 r z) = scale (v (ix2 r z)) := by
  obtain rfl : z = 0 := Subsingleton.elim _ _
  rw [← refScale_eq]
  unfold k0_pay1 refScale above cand
  pointwise
  rfl

/-- The scales of the rows of `x` are found from their largest values as those of the rows of `h` are. -/
theorem pay4_eq (x : Vec Ideal S6144x8192 .bf16) :
    k0_pay4 x = k0_pay1 (mulf (shapeCast S6144x1 (multiReduction .maximumf [1] S6144 (absf (k0_pay3 x)) 0xFF800000#32 reduces_S6144x8192_S6144 (.inl rfl) rfl)
      shapeCasts_S6144_S6144x1) (broadcast S6144x1 (Scalar.ofBits .f32 0x3B124925#32))) := by
  unfold k0_pay4 k0_pay1
  rfl

/-- The values of `x` are taken as they are. -/
theorem pay3_eq (x : Vec Ideal S6144x8192 .bf16) : k0_pay3 x = x := by
  unfold k0_pay3
  rw [shapeCast_self]
  rfl

/-- The scale of a row of `x`. -/
theorem pay4_apply (x : Vec Ideal S6144x8192 .bf16) (r : Fin 6144) (z : Fin 1) :
    k0_pay4 x (ix2 r z) = rowScale fun k => x (ix2 r k) := by
  rw [pay4_eq, pay1_apply, pay3_eq]
  exact congrArg scale (ratio_apply _ _ _ _ _ r z)

/-- The codes of an array, given the column of its rows' scales. -/
theorem clip_apply {n0 n1 : ℕ} (hn : n1 ≠ 1) (y : FVec Ideal ⟨2, ![n0, n1]⟩ .f32) (s : FVec Ideal ⟨2, ![n0, 1]⟩ .f32)
    (hb : (⟨2, ![n0, 1]⟩ : Shape).Broadcasts ⟨2, ![n0, n1]⟩) (hl : FTy.bits .fp8e4m3 < FTy.bits .f32) (r : Fin n0) (k : Fin n1) :
    truncf .fp8e4m3 (minimumf (broadcast ⟨2, ![n0, n1]⟩ (Scalar.ofBits .f32 0x43E00000#32)) (maximumf (broadcast ⟨2, ![n0, n1]⟩ (Scalar.ofBits .f32 0xC3E00000#32))
      (mulf y (broadcastTo ⟨2, ![n0, n1]⟩ (divf (broadcast ⟨2, ![n0, 1]⟩ (Scalar.ofBits .f32 0x3F800000#32)) s) hb)))) hl (ix2 r k)
      = clip (y (ix2 r k) * Ideal.div (Ideal.ofBits .f32 0x3F800000#32) (s (ix2 r 0))) := by
  refine congrArg (fun a : EReal => clip (y (ix2 r k) * a)) ?_
  refine broadcastTo_apply _ hb (ix2 r k) (ix2 r 0) fun a => ?_
  match a with
  | ⟨0, _⟩ =>
    show r.val = if n0 = 1 then 0 else r.val
    have := r.isLt
    split <;> omega
  | ⟨1, _⟩ => rfl

/-- The code of one value of `x` as the reference computes it. -/
theorem pay5_read (x : Vec Ideal S6144x8192 .bf16) (r : Fin 6144) (k : Fin 8192) :
    k0_pay5 x (ix2 r k) = clip (k0_pay3 x (ix2 r k) * Ideal.div 1 (k0_pay4 x (ix2 r 0))) := by
  rw [← ofBits_one]
  unfold k0_pay5
  exact clip_apply (by decide) (k0_pay3 x) (k0_pay4 x) _ _ r k

/-- The code of one value of `x`, from the row's scale. -/
theorem pay5_scaled (x : Vec Ideal S6144x8192 .bf16) (r : Fin 6144) (k : Fin 8192) :
    k0_pay5 x (ix2 r k) = clip (x (ix2 r k) * Ideal.div 1 (k0_pay4 x (ix2 r 0))) :=
  (pay5_read x r k).trans (congrArg (fun a : EReal => clip (a * Ideal.div 1 (k0_pay4 x (ix2 r 0)))) (congrFun (pay3_eq x) _))

/-- The code of one value of `x`. -/
theorem pay5_apply (x : Vec Ideal S6144x8192 .bf16) (r : Fin 6144) (k : Fin 8192) :
    k0_pay5 x (ix2 r k) = code (fun k => x (ix2 r k)) k := by
  rw [pay5_scaled, pay4_apply, rowScale, code, ← refScale_eq, div_refScale]

/-- One cell of `h`. -/
theorem pay8_apply (s : FVec Ideal S6144x1 .f32) (q : FVec Ideal S6144x8192 .fp8e4m3) (w : Vec Ideal S8192x5120 .i8) (gs : Vec Ideal S64x10240 .f32)
    (ws : Vec Ideal S1x10240 .f32) (r : Fin 6144) (c : Fin 5120) :
    k0_pay8 s q (k0_pay6 w) gs (k0_pay7 ws) 15#32 (ix2 r c) =
      swiglu (dot (fun k => q (ix2 r k)) (fun k => lo (w (ix2 k c))) (fun i => gs (ix2 i ⟨c.val, by omega⟩)) * s (ix2 r 0) * ws (ix2 0 ⟨c.val, by omega⟩))
        (dot (fun k => q (ix2 r k)) (fun k => hi (w (ix2 k c))) (fun i => gs (ix2 i ⟨5120 + c.val, by omega⟩)) * s (ix2 r 0) * ws (ix2 0 ⟨5120 + c.val, by omega⟩)) := by
  unfold k0_pay8 k0_pay6 k0_pay7 swiglu dot lo hi signed
  pointwise
  rfl

/-- The value that decides the scale of a row of `h`. -/
theorem pay9_apply (s : FVec Ideal S6144x1 .f32) (q : FVec Ideal S6144x8192 .fp8e4m3) (w : IVec S8192x5120 32) (gs : Vec Ideal S64x10240 .f32)
    (ws : FVec Ideal S1x10240 .f32) (r : Fin 6144) (z : Fin 1) :
    k0_pay9 s q w gs ws 15#32 (ix2 r z) = ratio (rowMax fun c => k0_pay8 s q w gs ws 15#32 (ix2 r c)) := by
  unfold k0_pay9
  generalize k0_pay8 s q w gs ws 15#32 = h
  exact ratio_apply _ _ _ _ _ r z

/-- The code of one value of `h`. -/
theorem pay2_apply (h : FVec Ideal S6144x5120 .f32) (v : FVec Ideal S6144x1 .f32) (r : Fin 6144) (c : Fin 5120) :
    k0_pay2 h v (ix2 r c) = clip (h (ix2 r c) * Scale.inv (v (ix2 r 0))) := by
  rw [← div_refScale, refScale_eq, ← pay1_apply v r 0]
  unfold k0_pay2
  generalize k0_pay1 v = s
  unfold clip
  pointwise

end Cert.ReferenceIdeal.Cells

end
-- ==== Proof.RefFinal.lean ====
module

public import proofs.«01_k».proof.Proof.RefCells
public import proofs.«01_k».proof.Proof.Rows
public import proofs.«01_k».proof.Proof.Gen.ReferenceIdeal.Frame
public import proofs.«01_k».proof.Proof.Gen.ReferenceIdeal.Points
public import Idealize.ShloMosaic.Lib.Pipeline.ValueKit.Basic
public import Idealize.ShloMosaic.Lib.Pipeline.ValueKit.Geometry

@[expose] public section

set_option maxRecDepth 16384

/-! # The reference's four arrays at the end -/

noncomputable section

namespace Cert.ReferenceIdeal.Final

open Idealize.ShloMosaic Idealize.ShloMosaic.TcCoe Idealize.ShloMosaic.Tactic
open Idealize.ShloMosaic.Pipeline (Dat Cfg Window)
open Cert.Rows Cert.ReferenceIdeal.Gen Cert.ReferenceIdeal.Cells Cert.Spec Cert.Scale

variable (m : (ℓ : Loc nD τ sig) → Buf (Elt Ideal) ℓ)

/-- The two zero offsets of a whole array. -/
theorem zeros : ∀ a : Fin 2, (![0, 0] : Fin 2 → ℕ) a = 0 := by decide

variable (x : Vec Ideal S6144x8192 .bf16) (w : Vec Ideal S8192x5120 .i8) (gs : Vec Ideal S64x10240 .f32) (ws : Vec Ideal S1x10240 .f32)

/-- The scales of `x`. -/
theorem v10_apply (r : Fin 6144) (z : Fin 1) : k0_pay10 x w gs ws (ix2 r z) = rowScale fun k => x (ix2 r k) := by
  unfold k0_pay10
  rw [View.ld_unit_lit _ _ zeros]
  exact pay4_apply x r z

/-- The codes of `x`. -/
theorem v11_apply (r : Fin 6144) (k : Fin 8192) : k0_pay11 x w gs ws (ix2 r k) = code (fun k => x (ix2 r k)) k := by
  unfold k0_pay11
  rw [View.ld_unit_lit _ _ zeros]
  exact pay5_apply x r k

/-- `h`, as the reference computes it. -/
def hval : FVec Ideal S6144x5120 .f32 :=
  k0_pay8 (k0_pay10 x w gs ws) (k0_pay11 x w gs ws) (k0_pay12 x w gs ws) (View.ld gs r0_2) (k0_pay13 x w gs ws) 15#32

/-- `h`, cell by cell. -/
theorem hval_apply (r : Fin 6144) (c : Fin 5120) : hval x w gs ws (ix2 r c) = hrow x w gs ws r c := by
  unfold hval k0_pay12 k0_pay13
  rw [View.ld_unit_lit _ _ zeros, View.ld_unit_lit _ _ zeros, View.ld_unit_lit _ _ zeros, pay8_apply]
  simp only [v10_apply, v11_apply]
  rfl

/-- The largest absolute values of the rows of `h` over 448. -/
theorem v14_apply (r : Fin 6144) (z : Fin 1) : k0_pay14 x w gs ws (ix2 r z) = ratio (rowMax (hrow x w gs ws r)) := by
  unfold k0_pay14
  exact (pay9_apply _ _ _ _ _ r z).trans (congrArg (fun f : Fin 5120 → EReal => ratio (rowMax f)) (funext fun c => hval_apply x w gs ws r c))

/-- The scales of `h`. -/
theorem out5_apply (r : Fin 6144) (z : Fin 1) : out0_5 x w gs ws (ix2 r z) = rowScale (hrow x w gs ws r) := by
  unfold out0_5
  rw [View.canon_cons_unit_lit _ _ _ zeros, pay1_apply, v14_apply]
  rfl

/-- The codes of `h`. -/
theorem out4_apply (r : Fin 6144) (c : Fin 5120) : out0_4 x w gs ws (ix2 r c) = code (hrow x w gs ws r) c := by
  unfold out0_4
  rw [View.canon_cons_unit_lit _ _ _ zeros, pay2_apply, v14_apply]
  refine congrArg (fun h => clip (h * Scale.inv _)) (hval_apply x w gs ws r c)

/-- The codes of `x`, as stored. -/
theorem out6_apply (r : Fin 6144) (k : Fin 8192) : out0_6 x w gs ws (ix2 r k) = code (fun k => x (ix2 r k)) k := by
  unfold out0_6
  rw [View.canon_cons_unit_lit _ _ _ zeros]
  exact v11_apply x w gs ws r k

/-- The scales of `x`, as stored. -/
theorem out7_apply (r : Fin 6144) (z : Fin 1) : out0_7 x w gs ws (ix2 r z) = rowScale fun k => x (ix2 r k) := by
  unfold out0_7
  rw [View.canon_cons_unit_lit _ _ _ zeros]
  exact v10_apply x w gs ws r z

/-! Each window is at its array's first and only block. -/

/-- Where the block of `x` is at a point. -/
theorem index_0 : ∀ t : Fin grid0.N, win0_0.index t = ![0, 0] := by decide +kernel
/-- Where the block of the packed weights is at a point. -/
theorem index_1 : ∀ t : Fin grid0.N, win0_1.index t = ![0, 0] := by decide +kernel
/-- Where the block of the group scales is at a point. -/
theorem index_2 : ∀ t : Fin grid0.N, win0_2.index t = ![0, 0] := by decide +kernel
/-- Where the block of the column scales is at a point. -/
theorem index_3 : ∀ t : Fin grid0.N, win0_3.index t = ![0, 0] := by decide +kernel
/-- Where the block of the codes of `h` is at a point. -/
theorem index_4 : ∀ t : Fin grid0.N, win0_4.index t = ![0, 0] := by decide +kernel
/-- Where the block of the scales of `h` is at a point. -/
theorem index_5 : ∀ t : Fin grid0.N, win0_5.index t = ![0, 0] := by decide +kernel
/-- Where the block of the codes of `x` is at a point. -/
theorem index_6 : ∀ t : Fin grid0.N, win0_6.index t = ![0, 0] := by decide +kernel
/-- Where the block of the scales of `x` is at a point. -/
theorem index_7 : ∀ t : Fin grid0.N, win0_7.index t = ![0, 0] := by decide +kernel

/-- An index of an array is the pair of its coordinates. -/
theorem eta2 {a b : ℕ} (y : (⟨2, ![a, b]⟩ : Shape).Idx) : y = ix2 (y 0) (y 1) := idx_ext rfl rfl

/-- The block of window 0 is its whole array. -/
theorem whole_0 (c : Dev nD) (t : Fin cfg0.N) : iblk m c 0 t = V m c main_v0 := by
  funext y
  unfold iblk
  rw [View.read_apply]
  refine congrArg (V m c main_v0) (idx_ext ?_ ?_)
  · blk_simp [index_0]
  · blk_simp [index_0]

/-- The block of window 1 is its whole array. -/
theorem whole_1 (c : Dev nD) (t : Fin cfg0.N) : iblk m c 1 t = V m c main_arg1 := by
  funext y
  unfold iblk
  rw [View.read_apply]
  refine congrArg (V m c main_arg1) (idx_ext ?_ ?_)
  · blk_simp [index_1]
  · blk_simp [index_1]

/-- The block of window 2 is its whole array. -/
theorem whole_2 (c : Dev nD) (t : Fin cfg0.N) : iblk m c 2 t = V m c main_arg2 := by
  funext y
  unfold iblk
  rw [View.read_apply]
  refine congrArg (V m c main_arg2) (idx_ext ?_ ?_)
  · blk_simp [index_2]
  · blk_simp [index_2]

/-- The block of window 3 is its whole array. -/
theorem whole_3 (c : Dev nD) (t : Fin cfg0.N) : iblk m c 3 t = V m c main_v1 := by
  funext y
  unfold iblk
  rw [View.read_apply]
  refine congrArg (V m c main_v1) (idx_ext ?_ ?_)
  · blk_simp [index_3]
  · blk_simp [index_3]

/-- The block of the codes of `h` is its whole array. -/
theorem emb_4 (t : Fin grid0.N) (y : S6144x5120.Idx) : (win0_4.blk t).view.emb y = y := by
  refine idx_ext ?_ ?_
  · blk_simp [index_4]
  · blk_simp [index_4]

/-- The array of the codes of `h`. -/
theorem arr_4 (c : Dev nD) : (dats m 0 c).arrAt 4 cfg0.N = resHC (V m c main_v0) (V m c main_arg1) (V m c main_arg2) (V m c main_v1) := by
  refine (dats m 0 c).arrAt_eq_of_covers 4 _ (by decide +kernel) fun t hf y => ?_
  have h : ∀ y : S6144x5120.Idx, out0_4 (V m c main_v0) (V m c main_arg1) (V m c main_arg2) (V m c main_v1) y
      = resHC (V m c main_v0) (V m c main_arg1) (V m c main_arg2) (V m c main_v1) y := fun y =>
    (congrArg _ (eta2 y)).trans (out4_apply _ _ _ _ (y 0) (y 1))
  blk_simp
  rw [after0_4, whole_0, whole_1, whole_2, whole_3, emb_4]
  exact h y

/-- The block of the scales of `h` is its whole array. -/
theorem emb_5 (t : Fin grid0.N) (y : S6144x1.Idx) : (win0_5.blk t).view.emb y = y := by
  refine idx_ext ?_ ?_
  · blk_simp [index_5]
  · blk_simp [index_5]

/-- The array of the scales of `h`. -/
theorem arr_5 (c : Dev nD) : (dats m 0 c).arrAt 5 cfg0.N = resHS (V m c main_v0) (V m c main_arg1) (V m c main_arg2) (V m c main_v1) := by
  refine (dats m 0 c).arrAt_eq_of_covers 5 _ (by decide +kernel) fun t hf y => ?_
  have h : ∀ y : S6144x1.Idx, out0_5 (V m c main_v0) (V m c main_arg1) (V m c main_arg2) (V m c main_v1) y
      = resHS (V m c main_v0) (V m c main_arg1) (V m c main_arg2) (V m c main_v1) y := fun y =>
    (congrArg _ (eta2 y)).trans (out5_apply _ _ _ _ (y 0) (y 1))
  blk_simp
  rw [after0_5, whole_0, whole_1, whole_2, whole_3, emb_5]
  exact h y

/-- The block of the codes of `x` is its whole array. -/
theorem emb_6 (t : Fin grid0.N) (y : S6144x8192.Idx) : (win0_6.blk t).view.emb y = y := by
  refine idx_ext ?_ ?_
  · blk_simp [index_6]
  · blk_simp [index_6]

/-- The array of the codes of `x`. -/
theorem arr_6 (c : Dev nD) : (dats m 0 c).arrAt 6 cfg0.N = resXC (V m c main_v0) := by
  refine (dats m 0 c).arrAt_eq_of_covers 6 _ (by decide +kernel) fun t hf y => ?_
  have h : ∀ y : S6144x8192.Idx, out0_6 (V m c main_v0) (V m c main_arg1) (V m c main_arg2) (V m c main_v1) y
      = resXC (V m c main_v0) y := fun y =>
    (congrArg _ (eta2 y)).trans (out6_apply _ _ _ _ (y 0) (y 1))
  blk_simp
  rw [after0_6, whole_0, whole_1, whole_2, whole_3, emb_6]
  exact h y

/-- The block of the scales of `x` is its whole array. -/
theorem emb_7 (t : Fin grid0.N) (y : S6144x1.Idx) : (win0_7.blk t).view.emb y = y := by
  refine idx_ext ?_ ?_
  · blk_simp [index_7]
  · blk_simp [index_7]

/-- The array of the scales of `x`. -/
theorem arr_7 (c : Dev nD) : (dats m 0 c).arrAt 7 cfg0.N = resXS (V m c main_v0) := by
  refine (dats m 0 c).arrAt_eq_of_covers 7 _ (by decide +kernel) fun t hf y => ?_
  have h : ∀ y : S6144x1.Idx, out0_7 (V m c main_v0) (V m c main_arg1) (V m c main_arg2) (V m c main_v1) y
      = resXS (V m c main_v0) y := fun y =>
    (congrArg _ (eta2 y)).trans (out7_apply _ _ _ _ (y 0) (y 1))
  blk_simp
  rw [after0_7, whole_0, whole_1, whole_2, whole_3, emb_7]
  exact h y

end Cert.ReferenceIdeal.Final
-- ==== Proof.RefResults.lean ====
module

public import proofs.«01_k».proof.Proof.RefFinal
public import Idealize.ShloMosaic.Lib.StableHlo.Run
public import Idealize.ShloMosaic.Lib.Claim

@[expose] public section

set_option maxRecDepth 16384

/-! # The reference's results, from its arguments -/

noncomputable section

namespace Cert.ReferenceIdeal.Final

open Idealize.ShloMosaic Idealize.ShloMosaic.TcCoe Idealize.ShloMosaic.Tactic Idealize.SL.Sem
open Idealize.ShloMosaic.Pipeline (Dat Cfg Window)
open Cert.Rows Cert.ReferenceIdeal.Gen Cert.Spec

variable (m : (ℓ : Loc nD τ sig) → Buf (Elt Ideal) ℓ) (ρ : Dev nD → PrngReg)

/-- The column scales, as the region finds them. -/
theorem V_scales (c : Dev nD) : V m c main_v1 = scalesOf (m ((c : Thread nD τ).loc main_arg3)) := by
  show StableHlo.after hostOps0 _ (Proc.devRef .tc main_v1) = _
  after_results
  rfl

/-- `x`, as the region finds it. -/
theorem V_rows (c : Dev nD) : V m c main_v0 = rowsOf (m ((c : Thread nD τ).loc main_arg0)) := by
  show StableHlo.after hostOps0 _ (Proc.devRef .tc main_v0) = _
  after_results
  rfl

/-- The array of a window, after the region. -/
theorem left (c : Dev nD) (w : Fin cfg0.W) :
    Pipeline.withArrays cfg0.spec c (V0 m c) (fun w => (dats m 0 c).arrAt w cfg0.N) (Proc.devRef .tc (Pipeline.arrRef cfg0.spec w))
      = (dats m 0 c).arrAt w cfg0.N :=
  Pipeline.withArrays_arr cfg0.spec (by decide) c (V0 m c) _ w

/-- The codes of `h`, as returned. -/
theorem tail_v3 (c : Dev nD) : Pipeline.afterTail₀ cfgs (dats m) 0 (V0 m) [hostOps1] c main_v3
    = retHC (m ((c : Thread nD τ).loc main_arg0)) (m ((c : Thread nD τ).loc main_arg1)) (m ((c : Thread nD τ).loc main_arg2)) (m ((c : Thread nD τ).loc main_arg3)) := by
  unfold Pipeline.afterTail₀ retHC
  rw [← V_rows, ← V_scales, ← V_main_arg1 m c, ← V_main_arg2 m c]
  show StableHlo.after hostOps1 _ (Proc.devRef .tc main_v3) = _
  after_results
  exact congrArg (fun f => shapeCast S12x512x5120 f shapeCasts_S6144x5120_S12x512x5120) ((left m c 4).trans (arr_4 m c))

/-- The scales of `h`, as returned. -/
theorem tail_v4 (c : Dev nD) : Pipeline.afterTail₀ cfgs (dats m) 0 (V0 m) [hostOps1] c main_v4
    = retHS (m ((c : Thread nD τ).loc main_arg0)) (m ((c : Thread nD τ).loc main_arg1)) (m ((c : Thread nD τ).loc main_arg2)) (m ((c : Thread nD τ).loc main_arg3)) := by
  unfold Pipeline.afterTail₀ retHS
  rw [← V_rows, ← V_scales, ← V_main_arg1 m c, ← V_main_arg2 m c]
  show StableHlo.after hostOps1 _ (Proc.devRef .tc main_v4) = _
  after_results
  exact congrArg (fun f => shapeCast S12x512 f shapeCasts_S6144x1_S12x512) ((left m c 5).trans (arr_5 m c))

/-- The codes of `x`, as returned. -/
theorem tail_v5 (c : Dev nD) : Pipeline.afterTail₀ cfgs (dats m) 0 (V0 m) [hostOps1] c main_v5
    = retXC (m ((c : Thread nD τ).loc main_arg0)) := by
  unfold Pipeline.afterTail₀ retXC
  rw [← V_rows]
  show StableHlo.after hostOps1 _ (Proc.devRef .tc main_v5) = _
  after_results
  exact congrArg (fun f => shapeCast S12x512x8192 f shapeCasts_S6144x8192_S12x512x8192) ((left m c 6).trans (arr_6 m c))

/-- The scales of `x`, as returned. -/
theorem tail_v6 (c : Dev nD) : Pipeline.afterTail₀ cfgs (dats m) 0 (V0 m) [hostOps1] c main_v6
    = retXS (m ((c : Thread nD τ).loc main_arg0)) := by
  unfold Pipeline.afterTail₀ retXS
  rw [← V_rows]
  show StableHlo.after hostOps1 _ (Proc.devRef .tc main_v6) = _
  after_results
  exact congrArg (fun f => shapeCast S12x512 f shapeCasts_S6144x1_S12x512) ((left m c 7).trans (arr_7 m c))

/-- The reference returns the four results of its arguments, and leaves the arguments as they were. -/
theorem results : θ_run defs (onTc (τ := τ) (main (F := Ideal))) ⟨m, fun _ => 0, ρ⟩ (fun r => ∀ c : Dev nD,
      r.2.mem ((c.tc : Thread nD τ).loc main_v3) = retHC (m ((c : Thread nD τ).loc main_arg0)) (m ((c : Thread nD τ).loc main_arg1)) (m ((c : Thread nD τ).loc main_arg2)) (m ((c : Thread nD τ).loc main_arg3))
      ∧ r.2.mem ((c.tc : Thread nD τ).loc main_v4) = retHS (m ((c : Thread nD τ).loc main_arg0)) (m ((c : Thread nD τ).loc main_arg1)) (m ((c : Thread nD τ).loc main_arg2)) (m ((c : Thread nD τ).loc main_arg3))
      ∧ r.2.mem ((c.tc : Thread nD τ).loc main_v5) = retXC (m ((c : Thread nD τ).loc main_arg0))
      ∧ r.2.mem ((c.tc : Thread nD τ).loc main_v6) = retXS (m ((c : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).2 main_v3 (Pipeline.mem_restRefs_of main_v3 (by decide) (by decide))).trans (tail_v3 m c),
      ((h.1 c).2 main_v4 (Pipeline.mem_restRefs_of main_v4 (by decide) (by decide))).trans (tail_v4 m c),
      ((h.1 c).2 main_v5 (Pipeline.mem_restRefs_of main_v5 (by decide) (by decide))).trans (tail_v5 m c),
      ((h.1 c).2 main_v6 (Pipeline.mem_restRefs_of main_v6 (by decide) (by decide))).trans (tail_v6 m c), h.2.1 c⟩)
    (θ_run_and (run_main m ρ) (frame m ρ))

end Cert.ReferenceIdeal.Final
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Words
public import proofs.«01_k».proof.Proof.KerResults
public import proofs.«01_k».proof.Proof.RefResults
public import Idealize.ShloMosaic.Adequacy
public import Idealize.ShloMosaic.Init

@[expose] public section

noncomputable section

namespace Cert.Proof

open Idealize.ShloMosaic Idealize.SL.Sem Cert.Kernel

/-- The kernel and the reference return the same four arrays, as functions of the arguments they share. -/
theorem agree : algebraic_KernelIdeal_ReferenceIdeal (hKernelIdeal := Cert.KernelIdeal.Gen.facts) (hReferenceIdeal := Cert.ReferenceIdeal.Gen.facts) := by
  intro m g m' g' _ h
  refine ⟨_, _, _, _, Cert.KernelIdeal.Points.results m g, ?_⟩
  refine (θ_run _ _ _).mono (fun r hr c => ?_) (Cert.ReferenceIdeal.Final.results m' g')
  have hc := hr c
  rw [(h c).1, (h c).2.1, (h c).2.2.1, (h c).2.2.2] at hc
  obtain ⟨h3, h4, h5, h6, ha⟩ := hc
  exact ⟨h3, h4, h5, h6, ha.1.trans (h c).1.symm, ha.2.1.trans (h c).2.1.symm, ha.2.2.1.trans (h c).2.2.1.symm, ha.2.2.2.trans (h c).2.2.2.symm⟩

/-- The claim. -/
theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ,
  fun m ρ _ => Cert.ReferenceIdeal.Gen.frame m ρ, trivial, agree⟩

end Cert.Proof

end
